-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x256 : Shape := ⟨3, ![2, 4096, 256]⟩
abbrev S4x1024x512 : Shape := ⟨3, ![4, 1024, 512]⟩
abbrev S_ : Shape := ⟨0, ![]⟩
abbrev S2 : Shape := ⟨1, ![2]⟩
abbrev S4 : Shape := ⟨1, ![4]⟩
abbrev S1 : Shape := ⟨1, ![1]⟩
abbrev S1x4096x256 : Shape := ⟨3, ![1, 4096, 256]⟩
abbrev S4096x256 : Shape := ⟨2, ![4096, 256]⟩
abbrev S1024x256 : Shape := ⟨2, ![1024, 256]⟩
abbrev S1x1024x256 : Shape := ⟨3, ![1, 1024, 256]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .f32⟩
  | .local _ .vmem, ⟨0, _⟩ => ⟨S4096x512, .f32⟩
  | .local _ .vmem, ⟨1, _⟩ => ⟨S1024x4096, .f32⟩
  | .local _ .vmem, ⟨2, _⟩ => ⟨S1024x4096, .bf16⟩
  | .local _ .vmem, ⟨3, _⟩ => ⟨S2x4096x256, .f32⟩
  | .local _ .vmem, ⟨4, _⟩ => ⟨S4x1024x512, .bf16⟩
  | .local _ .vmem, ⟨5, _⟩ => ⟨S4x1024x512, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v9 : BitVec 1 := Scalar.cmpi .ne v2 c0_i32_5
  let v10 : BitVec 32 := Scalar.extui v9
  let c0_i32_6 : BitVec 32 := 0#32
  let v11 : BitVec 1 := Scalar.cmpi .ne v10 c0_i32_6
  v11

def k0_dev1 : Nat :=
  let c0_i32_211 : BitVec 32 := 0#32
  let c0_i32_209 : BitVec 32 := 0#32
  let c1_i32_210 : BitVec 32 := 1#32
  let v241 : BitVec 32 := Scalar.muli c0_i32_209 c1_i32_210
  let v242 : BitVec 32 := Scalar.addi c0_i32_211 v241
  v242.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v12 : BitVec 1 := Scalar.cmpi .ne v2 c1_i32_7
  let v13 : BitVec 32 := Scalar.extui v12
  let c0_i32_8 : BitVec 32 := 0#32
  let v14 : BitVec 1 := Scalar.cmpi .ne v13 c0_i32_8
  v14

def k0_dev2 : Nat :=
  let c0_i32_211 : BitVec 32 := 0#32
  let c1_i32_209 : BitVec 32 := 1#32
  let c1_i32_210 : BitVec 32 := 1#32
  let v241 : BitVec 32 := Scalar.muli c1_i32_209 c1_i32_210
  let v242 : BitVec 32 := Scalar.addi c0_i32_211 v241
  v242.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v15 : BitVec 1 := Scalar.cmpi .ne v2 c2_i32
  let v16 : BitVec 32 := Scalar.extui v15
  let c0_i32_9 : BitVec 32 := 0#32
  let v17 : BitVec 1 := Scalar.cmpi .ne v16 c0_i32_9
  v17

def k0_dev3 : Nat :=
  let c0_i32_211 : BitVec 32 := 0#32
  let c2_i32_209 : BitVec 32 := 2#32
  let c1_i32_210 : BitVec 32 := 1#32
  let v241 : BitVec 32 := Scalar.muli c2_i32_209 c1_i32_210
  let v242 : BitVec 32 := Scalar.addi c0_i32_211 v241
  v242.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v18 : BitVec 1 := Scalar.cmpi .ne v2 c3_i32
  let v19 : BitVec 32 := Scalar.extui v18
  let c0_i32_10 : BitVec 32 := 0#32
  let v20 : BitVec 1 := Scalar.cmpi .ne v19 c0_i32_10
  v20

def k0_dev4 : Nat :=
  let c0_i32_211 : BitVec 32 := 0#32
  let c3_i32_209 : BitVec 32 := 3#32
  let c1_i32_210 : BitVec 32 := 1#32
  let v241 : BitVec 32 := Scalar.muli c3_i32_209 c1_i32_210
  let v242 : BitVec 32 := Scalar.addi c0_i32_211 v241
  v242.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let v43 : BitVec 1 := Scalar.cmpi .eq v2 c0_i32_32
  let v44 : BitVec 32 := Scalar.extui v43
  let c0_i32_33 : BitVec 32 := 0#32
  let v45 : BitVec 1 := Scalar.cmpi .ne v44 c0_i32_33
  v45

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c0_209 : Index := 0#32
  ![v242.toNat, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_53 : BitVec 32 := 0#32
  let v66 : BitVec 1 := Scalar.cmpi .eq v2 c0_i32_53
  let v67 : BitVec 32 := Scalar.extui v66
  let c0_i32_54 : BitVec 32 := 0#32
  let v68 : BitVec 1 := Scalar.cmpi .ne v67 c0_i32_54
  v68

def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c256 : Index := 256#32
  ![v242.toNat, 256]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_57 : BitVec 32 := 0#32
  let v72 : BitVec 1 := Scalar.cmpi .ne v2 c0_i32_57
  let v73 : BitVec 32 := Scalar.extui v72
  let c0_i32_58 : BitVec 32 := 0#32
  let v74 : BitVec 1 := Scalar.cmpi .ne v73 c0_i32_58
  v74

def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let c0_i32_214 : BitVec 32 := 0#32
  ![v2.toNat, 0, 0]
def k0_dev5 : Nat :=
  let c0_i32_212 : BitVec 32 := 0#32
  let c0_i32_210 : BitVec 32 := 0#32
  let c1_i32_211 : BitVec 32 := 1#32
  let v241 : BitVec 32 := Scalar.muli c0_i32_210 c1_i32_211
  let v242 : BitVec 32 := Scalar.addi c0_i32_212 v241
  v242.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v92 : BitVec 1 := Scalar.cmpi .eq v2 c1_i32_77
  let v93 : BitVec 32 := Scalar.extui v92
  let c0_i32_78 : BitVec 32 := 0#32
  let v94 : BitVec 1 := Scalar.cmpi .ne v93 c0_i32_78
  v94

def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c0_209 : Index := 0#32
  ![v242.toNat, 0]
def k0_cond12 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_99 : BitVec 32 := 1#32
  let v115 : BitVec 1 := Scalar.cmpi .eq v2 c1_i32_99
  let v116 : BitVec 32 := Scalar.extui v115
  let c0_i32_100 : BitVec 32 := 0#32
  let v117 : BitVec 1 := Scalar.cmpi .ne v116 c0_i32_100
  v117

def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c256 : Index := 256#32
  ![v242.toNat, 256]
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v121 : BitVec 1 := Scalar.cmpi .ne v2 c1_i32_103
  let v122 : BitVec 32 := Scalar.extui v121
  let c0_i32_104 : BitVec 32 := 0#32
  let v123 : BitVec 1 := Scalar.cmpi .ne v122 c0_i32_104
  v123

def k0_off7 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let c0_i32_214 : BitVec 32 := 0#32
  ![v2.toNat, 0, 0]
def k0_dev6 : Nat :=
  let c0_i32_212 : BitVec 32 := 0#32
  let c1_i32_210 : BitVec 32 := 1#32
  let c1_i32_211 : BitVec 32 := 1#32
  let v241 : BitVec 32 := Scalar.muli c1_i32_210 c1_i32_211
  let v242 : BitVec 32 := Scalar.addi c0_i32_212 v241
  v242.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_123 : BitVec 32 := 2#32
  let v141 : BitVec 1 := Scalar.cmpi .eq v2 c2_i32_123
  let v142 : BitVec 32 := Scalar.extui v141
  let c0_i32_124 : BitVec 32 := 0#32
  let v143 : BitVec 1 := Scalar.cmpi .ne v142 c0_i32_124
  v143

def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c0_209 : Index := 0#32
  ![v242.toNat, 0]
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_145 : BitVec 32 := 2#32
  let v164 : BitVec 1 := Scalar.cmpi .eq v2 c2_i32_145
  let v165 : BitVec 32 := Scalar.extui v164
  let c0_i32_146 : BitVec 32 := 0#32
  let v166 : BitVec 1 := Scalar.cmpi .ne v165 c0_i32_146
  v166

def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c256 : Index := 256#32
  ![v242.toNat, 256]
def k0_cond19 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_149 : BitVec 32 := 2#32
  let v170 : BitVec 1 := Scalar.cmpi .ne v2 c2_i32_149
  let v171 : BitVec 32 := Scalar.extui v170
  let c0_i32_150 : BitVec 32 := 0#32
  let v172 : BitVec 1 := Scalar.cmpi .ne v171 c0_i32_150
  v172

def k0_off11 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let c0_i32_214 : BitVec 32 := 0#32
  ![v2.toNat, 0, 0]
def k0_dev7 : Nat :=
  let c0_i32_212 : BitVec 32 := 0#32
  let c2_i32_210 : BitVec 32 := 2#32
  let c1_i32_211 : BitVec 32 := 1#32
  let v241 : BitVec 32 := Scalar.muli c2_i32_210 c1_i32_211
  let v242 : BitVec 32 := Scalar.addi c0_i32_212 v241
  v242.toNat
def k0_cond20 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_169 : BitVec 32 := 3#32
  let v190 : BitVec 1 := Scalar.cmpi .eq v2 c3_i32_169
  let v191 : BitVec 32 := Scalar.extui v190
  let c0_i32_170 : BitVec 32 := 0#32
  let v192 : BitVec 1 := Scalar.cmpi .ne v191 c0_i32_170
  v192

def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c0_209 : Index := 0#32
  ![v242.toNat, 0]
def k0_cond22 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_186 : BitVec 32 := 3#32
  let v208 : BitVec 1 := Scalar.cmpi .eq v2 c3_i32_186
  let v209 : BitVec 32 := Scalar.extui v208
  let c0_i32_187 : BitVec 32 := 0#32
  let v210 : BitVec 1 := Scalar.cmpi .ne v209 c0_i32_187
  v210

def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_208 : BitVec 32 := 1024#32
  let v241 : BitVec 32 := Scalar.muli v2 c1024_i32_208
  let v242 : Index := Scalar.indexCast v241
  let c256 : Index := 256#32
  ![v242.toNat, 256]
def k0_cond24 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_190 : BitVec 32 := 3#32
  let v214 : BitVec 1 := Scalar.cmpi .ne v2 c3_i32_190
  let v215 : BitVec 32 := Scalar.extui v214
  let c0_i32_191 : BitVec 32 := 0#32
  let v216 : BitVec 1 := Scalar.cmpi .ne v215 c0_i32_191
  v216

def k0_off15 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_213 : BitVec 32 := 0#32
  let c0_i32_214 : BitVec 32 := 0#32
  ![v2.toNat, 0, 0]
def k0_dev8 : Nat :=
  let c0_i32_212 : BitVec 32 := 0#32
  let c3_i32_210 : BitVec 32 := 3#32
  let c1_i32_211 : BitVec 32 := 1#32
  let v241 : BitVec 32 := Scalar.muli c3_i32_210 c1_i32_211
  let v242 : BitVec 32 := Scalar.addi c0_i32_212 v241
  v242.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealCommon.lean ====
/-
  The all-to-all's protocol: the buffers' slots, the semaphore cells, the values each device computes and sends, and the schedule that
  says what every signal and every remote copy hands over.

  Device `c` multiplies its rows of `x` with `w` column chunk by column chunk; chunks `2 j` and `2 j + 1` make the block that belongs to
  device `j`. Its own block it stores straight into its result; every other block goes into slot `j` of its send buffer and from there
  into slot `c` of device `j`'s receive buffer. Before anything is sent, every device signals every other device's barrier semaphore, and
  waits for three units on its own: with the unit it signals to device `j`, device `c` hands over slot `j` of its receive buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdealProof

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the all-to-all's, whose duties are named
by devices, and the counters of the copies inside a device -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The slots of the send and receive buffers -/

abbrev sM : Memref sig .tc .vmem S4x1024x512 .bf16 := Memref.whole cc0_scratch3
abbrev rM : Memref sig .tc .vmem S4x1024x512 .bf16 := Memref.whole cc0_scratch4

theorem slot_inb (j : Dev nD) : ∀ a, (![j.val, 0, 0] : Fin 3 → Nat) a + S1x1024x512.size a ≤ S4x1024x512.size a := by
  revert j; decide +kernel

/-- Slot `j` as a box of the four-slot buffer; -/
abbrev slotBox (j : Dev nD) : Rect S4x1024x512 := Rect.unit (s := S4x1024x512) ![j.val, 0, 0] S1x1024x512.size (slot_inb j)
/-- as the memref a transfer names. -/
abbrev slotOf (M : Memref sig .tc .vmem S4x1024x512 .bf16) (j : Dev nD) : Memref sig .tc .vmem S1024x512 .bf16 :=
  (M.slice (slotBox j) (fun _ => rfl)).squeeze S1024x512 squeezes_S1x1024x512_S1024x512

/-- The elements of slot `j`. -/
abbrev slotSet (M : Memref sig .tc .vmem S4x1024x512 .bf16) (j : Dev nD) := M.view.setOn (slotBox j).set

theorem slotOf_set (M : Memref sig .tc .vmem S4x1024x512 .bf16) (j : Dev nD) : (slotOf M j).view.set = slotSet M j :=
  (View.set_reshape _ _).trans (View.set_slice M.view (slotBox j))

/-- A slot of device `c`'s send buffer, and of its receive buffer, at contents `f` (of the whole buffer: only the slot's are owned). -/
abbrev sendPts (c j : Dev nD) (f : Buf (Elt F) (sM.view.loc (c : Thread nD τ))) : sProp 𝕄 :=
  sM.view.loc (c : Thread nD τ) ↦[slotSet sM j]{fullShare} f
abbrev recvPts (c j : Dev nD) (f : Buf (Elt F) (rM.view.loc (c : Thread nD τ))) : sProp 𝕄 :=
  rM.view.loc (c : Thread nD τ) ↦[slotSet rM j]{fullShare} f

/-! ## The cells -/

theorem sem_inb (j : Dev nD) : ∀ a, (![j.val] : Fin 1 → Nat) a + S1.size a ≤ S4.size a := by revert j; decide +kernel

abbrev semOf (A : DmaSems sig S4) (j : Dev nD) : DmaSem sig :=
  ((A.slice (Rect.unit (s := S4) ![j.val] S1.size (sem_inb j))).squeeze S_ squeezes_S1_S_).sem

abbrev barS : Sem sig := (SemArray.scalar (sig.barrier 0 rfl) : Sems sig S_).sem

abbrev barCell (c : Dev nD) : GSem nD τ sig := ((c : Thread nD τ), .reg barS)
/-- The send semaphore device `c` passes with its transfer to device `j`; -/
abbrev sendCell (c j : Dev nD) : GSem nD τ sig := ((c : Thread nD τ), .dma (semOf cc0_scratch7 j))
/-- device `c`'s receive semaphore for what device `p` sends. -/
abbrev recvCell (c p : Dev nD) : GSem nD τ sig := ((c : Thread nD τ), .dma (semOf cc0_scratch8 p))

/-- Which semaphore is which. -/
def IsSend (q : SemLoc sig) : Prop := ∃ j : Dev nD, q = .dma (semOf cc0_scratch7 j)
def IsRecv (q : SemLoc sig) : Prop := ∃ p : Dev nD, q = .dma (semOf cc0_scratch8 p)

theorem semSend_inj {j k : Dev nD} (h : (SemLoc.dma (semOf cc0_scratch7 j) : SemLoc sig) = .dma (semOf cc0_scratch7 k)) : j = k := by
  revert j k; decide +kernel
theorem semRecv_inj {j k : Dev nD} (h : (SemLoc.dma (semOf cc0_scratch8 j) : SemLoc sig) = .dma (semOf cc0_scratch8 k)) : j = k := by
  revert j k; decide +kernel
theorem semSend_ne_recv (j k : Dev nD) : (SemLoc.dma (semOf cc0_scratch7 j) : SemLoc sig) ≠ .dma (semOf cc0_scratch8 k) := by
  revert j k; decide +kernel

/-- The credit of one block's transfer. -/
def N : ℕ := (slotOf rM 0).view.dmaCredit
theorem N_pos : 0 < N := View.dmaCredit_pos _ (by decide)

/-! ## What is computed and what is sent -/

/-- Device `p`'s rows of `x` in the matrix unit's format; -/
def xb (p : Dev nD) : Vec F S1024x4096 .bf16 := k0_pay4 (m ((p : Thread nD τ).loc main_arg0))
/-- columns `256 k …` of device `p`'s `w`; -/
def wc (p : Dev nD) (k : Fin 8) : Vec F S1x4096x256 .f32 := fun i =>
  (show Vec F S4096x2048 .f32 from m ((p : Thread nD τ).loc main_arg1))
    (fun a => match a with
      | ⟨0, _⟩ => (⟨(i 1).val, (i 1).isLt⟩ : Fin 4096)
      | ⟨1, _⟩ => (⟨256 * k.val + (i 2).val, by have h : (i 2).val < 256 := (i 2).isLt; have := k.isLt; show _ < 2048; omega⟩ : Fin 2048))
/-- the positive part of their product: chunk `k` of device `p`; -/
def chunk (p : Dev nD) (k : Fin 8) : FVec F S1024x256 .f32 := k0_pay5 (wc m p k) (xb m p)
/-- the two chunks that make device `p`'s block for device `j`, as sent. -/
def half (p j : Dev nD) (h : Fin 2) : FVec F S1024x256 .f32 := chunk m p ⟨2 * j.val + h.val, by have : j.val < 4 := j.isLt; have := h.isLt; omega⟩
def sent (p j : Dev nD) : Vec F S1024x512 .bf16 := fun i =>
  (truncf .bf16 (half m p j ⟨(i 1).val / 256, by have h : (i 1).val < 512 := (i 1).isLt; omega⟩) bitsLt_bf16_f32)
    (ix2 ⟨(i 0).val, (i 0).isLt⟩ ⟨(i 1).val % 256, Nat.mod_lt _ (by decide)⟩)
/-- What device `c`'s result holds: in its own rows the chunks it computed for itself, in device `p`'s rows the block `p` sent. -/
def outAt (c : Dev nD) : Vec F S4096x512 .f32 := fun i =>
  if (i 0).val / 1024 = c.val then
    half m c c ⟨(i 1).val / 256, by have h : (i 1).val < 512 := (i 1).isLt; omega⟩
      (ix2 ⟨(i 0).val % 1024, Nat.mod_lt _ (by decide)⟩ ⟨(i 1).val % 256, Nat.mod_lt _ (by decide)⟩)
  else
    (extf .f32 (sent m ⟨(i 0).val / 1024, by have h : (i 0).val < 4096 := (i 0).isLt; show _ < 4; omega⟩ c) bitsLt_bf16_f32)
      (ix2 ⟨(i 0).val % 1024, Nat.mod_lt _ (by decide)⟩ ⟨(i 1).val, (i 1).isLt⟩)

/-! ## The schedule -/

/-- What device `d`'s unit on device `c`'s barrier hands `c`: slot `c` of `d`'s receive buffer, and that `d`'s receive semaphore for
    `c` is at its first round. -/
def barPay (c d : Dev nD) : sProp 𝕄 := iprop((∃ f, recvPts d c f) ∗ reached ER (recvCell d c) 0)
/-- What a transfer from `p` hands device `c`: slot `p` of its receive buffer holding the block `p` computed for it; -/
def recvPay (c p : Dev nD) : sProp 𝕄 := iprop(∃ f, ⌜(slotOf rM p).view.read (Elt F) f = sent m p c⌝ ∗ recvPts c p f)
/-- and what its departure hands back: the slot it was sent from. -/
def sendPay (c j : Dev nD) : sProp 𝕄 := iprop(∃ f, sendPts (F := F) c j f)

open Classical in
/-- One round: three units on a barrier cell, one from each other device; one transfer on a receive cell of another device and on a
    send cell to another device; nothing on the two cells a device would use to send to itself. -/
def Rd : Rounds.Schedule (GSem nD τ sig) (Dev nD) 𝕄 where
  duties g r := if r = 0 ∧ g.1.2 = .tc then
      (if g.2 = .reg barS then Finset.univ.erase g.1.1
       else if ∃ j : Dev nD, j ≠ g.1.1 ∧ (g.2 = .dma (semOf cc0_scratch7 j) ∨ g.2 = .dma (semOf cc0_scratch8 j)) then {0} else ∅)
    else ∅
  unitless _ := False
  amount g _ _ := if g.2 = .reg barS then 1 else N
  payload g _ d :=
    if g.2 = .reg barS then barPay g.1.1 d
    else if h : ∃ p : Dev nD, g.2 = .dma (semOf cc0_scratch8 p) then recvPay m g.1.1 h.choose
    else if h : ∃ j : Dev nD, g.2 = .dma (semOf cc0_scratch7 j) then sendPay g.1.1 h.choose
    else iprop(emp)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m).payload g r d) := by
  dsimp only [Rd]
  unfold barPay recvPay sendPay
  (repeat' split) <;> infer_instance

section Sched
variable (c d : Dev nD)

omit [FloatOps F] in
theorem dma_ne_bar (q : DmaSem sig) : (SemLoc.dma q : SemLoc sig) ≠ .reg barS := fun h => by cases h

theorem duties_bar : (Rd (F := F) m).duties (barCell c) 0 = Finset.univ.erase c := by
  dsimp only [Rd]; rw [if_pos ⟨rfl, rfl⟩, if_pos rfl]
theorem duties_send (h : d ≠ c) : (Rd (F := F) m).duties (sendCell c d) 0 = {0} := by
  dsimp only [Rd]; rw [if_pos ⟨rfl, rfl⟩, if_neg (dma_ne_bar _), if_pos ⟨d, h, .inl rfl⟩]
theorem duties_recv (h : d ≠ c) : (Rd (F := F) m).duties (recvCell c d) 0 = {0} := by
  dsimp only [Rd]; rw [if_pos ⟨rfl, rfl⟩, if_neg (dma_ne_bar _), if_pos ⟨d, h, .inr rfl⟩]
theorem duties_send_self : ∀ r, 0 ≤ r → (Rd (F := F) m).duties (sendCell c c) r = ∅ := fun r _ => by
  dsimp only [Rd]
  by_cases hr : r = 0
  · rw [if_pos ⟨hr, rfl⟩, if_neg (dma_ne_bar _), if_neg]
    rintro ⟨j, hj, h | h⟩
    · exact hj (semSend_inj h).symm
    · exact semSend_ne_recv _ _ h
  · rw [if_neg fun h => hr h.1]
theorem duties_recv_self : ∀ r, 0 ≤ r → (Rd (F := F) m).duties (recvCell c c) r = ∅ := fun r _ => by
  dsimp only [Rd]
  by_cases hr : r = 0
  · rw [if_pos ⟨hr, rfl⟩, if_neg (dma_ne_bar _), if_neg]
    rintro ⟨j, hj, h | h⟩
    · exact semSend_ne_recv _ _ h.symm
    · exact hj (semRecv_inj h).symm
  · rw [if_neg fun h => hr h.1]
theorem duties_later (g : GSem nD τ sig) : ∀ r, 1 ≤ r → (Rd (F := F) m).duties g r = ∅ :=
  fun r hr => by dsimp only [Rd]; rw [if_neg fun h => by omega]

theorem amount_bar : (Rd (F := F) m).amount (barCell c) 0 d = 1 := by dsimp only [Rd]; exact if_pos rfl
theorem amount_dma (q : DmaSem sig) : (Rd (F := F) m).amount ((c : Thread nD τ), .dma q) 0 d = N := by
  dsimp only [Rd]; exact if_neg (dma_ne_bar _)

theorem expect_bar : (Rd (F := F) m).expect (barCell c) 0 = 3 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]; rfl
theorem expect_send (h : d ≠ c) : (Rd (F := F) m).expect (sendCell c d) 0 = N := by
  unfold Schedule.expect Schedule.amountOf; rw [duties_send m c d h, Finset.sum_singleton, amount_dma]
theorem expect_recv (h : d ≠ c) : (Rd (F := F) m).expect (recvCell c d) 0 = N := by
  unfold Schedule.expect Schedule.amountOf; rw [duties_recv m c d h, Finset.sum_singleton, amount_dma]

theorem payload_bar : (Rd (F := F) m).payload (barCell c) 0 d = barPay c d := by dsimp only [Rd]; rw [if_pos rfl]
theorem payload_recv (e : Dev nD) : (Rd (F := F) m).payload (recvCell c d) 0 e = recvPay m c d := by
  have h : ∃ p : Dev nD, (recvCell c d).2 = .dma (semOf cc0_scratch8 p) := ⟨d, rfl⟩
  dsimp only [Rd]; rw [if_neg (dma_ne_bar _), dif_pos h, ← semRecv_inj h.choose_spec]
theorem payload_send (e : Dev nD) : (Rd (F := F) m).payload (sendCell c d) 0 e = sendPay c d := by
  have h : ∃ p : Dev nD, (sendCell c d).2 = .dma (semOf cc0_scratch7 p) := ⟨d, rfl⟩
  dsimp only [Rd]
  rw [if_neg (dma_ne_bar _), dif_neg (fun ⟨p, hp⟩ => semSend_ne_recv _ _ hp), dif_pos h, ← semSend_inj h.choose_spec]

theorem rest_bar : bigSep ((Rd (F := F) m).duties (barCell c) 0 \ ∅) (fun d => (Rd (F := F) m).payload (barCell c) 0 d)
    = bigSep (Finset.univ.erase c) (fun d => barPay (F := F) c d) := by
  rw [Finset.sdiff_empty, duties_bar]; exact bigSep_congr fun d _ => payload_bar m c d
theorem rest_send (h : d ≠ c) : bigSep ((Rd (F := F) m).duties (sendCell c d) 0 \ ∅) (fun e => (Rd (F := F) m).payload (sendCell c d) 0 e) = sendPay c d := by
  rw [Finset.sdiff_empty, duties_send m c d h, bigSep_singleton, payload_send]
theorem rest_recv (h : d ≠ c) : bigSep ((Rd (F := F) m).duties (recvCell c d) 0 \ ∅) (fun e => (Rd (F := F) m).payload (recvCell c d) 0 e) = recvPay m c d := by
  rw [Finset.sdiff_empty, duties_recv m c d h, bigSep_singleton, payload_recv]

end Sched

/-! ## What each core owes at launch; the levels -/

/-- The credit of the block for device `j`, and the unit on device `j`'s barrier: nothing for the device itself. -/
def owRecv (c j : Dev nD) : CellTallies nD τ sig Unit := if j = c then 0 else tallyAt (recvCell j c) () N
def owBar (c j : Dev nD) : CellTallies nD τ sig Unit := if j = c then 0 else tallyAt (barCell j) () 1
/-- All of it, the last to be paid first. -/
def owRest (c : Dev nD) : CellTallies nD τ sig Unit := owRecv c 3 + owRecv c 2 + owRecv c 1 + owRecv c 0
def O₀ (c : Dev nD) : CellTallies nD τ sig Unit := owRest c + owBar c 3 + owBar c 2 + owBar c 1 + owBar c 0

def L (g : GSem nD τ sig) : Finset Unit := if g.1.2 = .tc then {()} else ∅
open Classical in
/-- barrier cells at 1, receive cells at 2, everything else at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c p : Dev nD) : lv (recvCell c p) () = 2 := by unfold lv; rw [if_neg (dma_ne_bar _), if_pos ⟨p, rfl⟩]
theorem lv_low (c : Dev nD) (q : DmaSem sig) (h : ∀ p : Dev nD, q ≠ semOf cc0_scratch8 p) : lv ((c : Thread nD τ), .dma q) () = 0 := by
  unfold lv; rw [if_neg (dma_ne_bar _), if_neg (fun ⟨p, hp⟩ => h p (by injection hp))]

/-- A debt that lies on receive cells and barrier cells of TensorCores only; on receive cells only. -/
def DebtAny (O : CellTallies nD τ sig Unit) : Prop := ∀ g u, 0 < O g u → (∃ j p, g = recvCell j p) ∨ ∃ j, g = barCell j
def DebtRecv (O : CellTallies nD τ sig Unit) : Prop := ∀ g u, 0 < O g u → ∃ j p, g = recvCell j p

theorem DebtRecv.any {O : CellTallies nD τ sig Unit} (h : DebtRecv O) : DebtAny O := fun g u hg => .inl (h g u hg)
theorem DebtRecv.zero : DebtRecv 0 := fun g u h => absurd h (Nat.lt_irrefl 0)
theorem DebtRecv.tally (j p : Dev nD) (n : ℕ) : DebtRecv (tallyAt (recvCell j p) () n) := fun g u h => by
  rw [tallyAt_apply] at h
  by_cases hg : g = recvCell j p ∧ u = ()
  · exact ⟨j, p, hg.1⟩
  · rw [if_neg hg] at h; exact absurd h (Nat.lt_irrefl 0)
theorem DebtAny.tallyBar (j : Dev nD) (n : ℕ) : DebtAny (tallyAt (barCell j) () n) := fun g u h => by
  rw [tallyAt_apply] at h
  by_cases hg : g = barCell j ∧ u = ()
  · exact .inr ⟨j, hg.1⟩
  · rw [if_neg hg] at h; exact absurd h (Nat.lt_irrefl 0)
theorem DebtRecv.add {O O' : CellTallies nD τ sig Unit} (h : DebtRecv O) (h' : DebtRecv O') : DebtRecv (O + O') := fun g u hg => by
  rw [Pi.add_apply, Finsupp.add_apply] at hg
  rcases Nat.pos_of_ne_zero (fun h0 => by omega) |> fun (_ : 0 < O g u + O' g u) => Nat.eq_zero_or_pos (O g u) with h0 | h0
  · exact h' g u (by omega)
  · exact h g u h0
theorem DebtAny.add {O O' : CellTallies nD τ sig Unit} (h : DebtAny O) (h' : DebtAny O') : DebtAny (O + O') := fun g u hg => by
  rw [Pi.add_apply, Finsupp.add_apply] at hg
  rcases Nat.eq_zero_or_pos (O g u) with h0 | h0
  · exact h' g u (by omega)
  · exact h g u h0
theorem owRecv_debt (c j : Dev nD) : DebtRecv (owRecv c j) := by
  unfold owRecv; split
  · exact .zero
  · exact .tally _ _ _
theorem owBar_debt (c j : Dev nD) : DebtAny (owBar c j) := by
  unfold owBar; split
  · exact DebtRecv.zero.any
  · exact .tallyBar _ _
theorem owRest_debt (c : Dev nD) : DebtRecv (owRest c) :=
  (((owRecv_debt c 3).add (owRecv_debt c 2)).add (owRecv_debt c 1)).add (owRecv_debt c 0)
theorem O₀_debt (c : Dev nD) : DebtAny (O₀ c) :=
  ((((owRest_debt c).any.add (owBar_debt c 3)).add (owBar_debt c 2)).add (owBar_debt c 1)).add (owBar_debt c 0)

/-- A wait on a cell at level 0, owing receive credits and barrier units; -/
theorem mayWait_low (c : Dev nD) (q : DmaSem sig) (hq : ∀ p : Dev nD, q ≠ semOf cc0_scratch8 p) (O : CellTallies nD τ sig Unit) (hO : DebtAny O) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO g u hg with ⟨j, p, rfl⟩ | ⟨j, rfl⟩ <;> (rw [L_tc]; exact Finset.mem_singleton_self _))
    (fun p hp => by rw [Finset.mem_singleton.mp hp]; exact (lv_low c q hq).le)
    (fun g u hg => by
      rcases hO g u hg with ⟨j, p, rfl⟩ | ⟨j, rfl⟩
      · show 0 < lv (recvCell j p) (); rw [lv_recv]; decide
      · show 0 < lv (barCell j) (); rw [lv_bar]; decide)

/-- the wait on the barrier, owing receive credits only. -/
theorem mayWait_bar (c : Dev nD) (O : CellTallies nD τ sig Unit) (hO : DebtRecv O) :
    (levAts L lv : sProp 𝕄) ⊢ MayWait (c : Thread nD τ) (.reg barS) () O :=
  MayOwe.of_cut (L := L) (lev := lv) 1 (fun p hp => by rw [Finset.mem_singleton.mp hp, L_tc]; exact Finset.mem_singleton_self _)
    (fun g u hg => by obtain ⟨j, p, rfl⟩ := hO g u hg; rw [L_tc]; exact Finset.mem_singleton_self _)
    (fun p hp => by rw [Finset.mem_singleton.mp hp]; exact (lv_bar c).le)
    (fun g u hg => by
      obtain ⟨j, p, rfl⟩ := hO g u hg
      show 1 < lv (recvCell j p) (); rw [lv_recv]; decide)

end Cert.KernelIdealProof

end
-- ==== Proof.KernelIdealSteps.lean ====
/-
  The all-to-all's own statements, one rule each: the signal to another device's barrier, the wait on the own one, the transfer of a block,
  the wait for a block, the wait for a departure, and the closing of the cells.
-/
module

public import proofs.«01_k».proof.Proof.KernelIdealCommon

@[expose] public section

noncomputable section

namespace Cert.KernelIdealProof

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

section Steps
variable {c : Dev nD} {α : Type} {Q : α → sProp (MT nD τ sig Unit (Elt F) ℕ UU ℕ)} {k : PUnit → Prog (TpuEff nD τ sig (Elt F) Λ₀ .tc) α}

/-- What is left to run after a statement. -/
abbrev Rest (c : Dev nD) (k : PUnit → Prog (TpuEff nD τ sig (Elt F) Λ₀ .tc) α) (Q : α → sProp 𝕄) : sProp 𝕄 :=
  wp frame (wpE (defs₀ (F := F)) 𝒱₀ (c : Thread nD τ) none) Set.univ (k ⟨⟩) Q

/-- The signal to device `j`'s barrier: slot `j` of the own receive buffer goes with it. -/
theorem step_signal {j n : Dev nD} (hn : n = j) (hj : j ≠ c) {a : ℤ} (ha : a = 1) {κ : ℕ} (O : CellTallies nD τ sig Unit) (W : Waits sig Unit)
    (f : Buf (Elt F) (rM.view.loc (c : Thread nD τ))) :
    iprop(cellInv ER (Rd m) κ (barCell j) ∗ owes (c : Thread nD τ) (O + tallyAt (barCell j) () 1) W ∗ dutyTok ER (barCell j) 0 c
        ∗ recvPts c j f ∗ reached ER (recvCell c j) 0 ∗ reached ER (barCell j) 0)
      ⊢ iprop((owes (c : Thread nD τ) O W -∗ Rest c k Q)
          -∗ wp frame (wpE (defs₀ (F := F)) 𝒱₀ (c : Thread nD τ) none) Set.univ (.op (.semSignal (n : Thread nD τ) barS a) k) Q) := by
  subst hn ha
  iintro ⟨HI, HO, Ht, Hr, HR, HB⟩
  iapply (Rounds.wp_signal 𝒱₀ ER (Rd m) (c : Thread nD τ) none (dst := (n : Thread nD τ)) (κ := κ)
      (d := c) (by rw [duties_bar]; exact Finset.mem_erase.mpr ⟨hj.symm, Finset.mem_univ _⟩) ((amount_bar m n c).trans (by decide)) () O rfl)
    $$ [HI HO Ht Hr HR HB]
  isplitl [HI]; · iexact HI
  isplitl [HO]; · iexact HO
  isplitl [Ht]; · iexact Ht
  isplitl [Hr HR]
  · rw [payload_bar]; unfold barPay
    isplitl [Hr]; · iexists f; iexact Hr
    iexact HR
  iexact HB

/-- The wait for three units on the own barrier, owing receive credits: every other device's slot for this one. -/
theorem step_barrier {a : ℤ} (ha : a = 3) {κ : ℕ} (O : CellTallies nD τ sig Unit) (hO : DebtRecv O) (W : Waits sig Unit) :
    iprop(cellInv ER (Rd m) κ (barCell c) ∗ cred (tallyAt (barCell c) () 3) ∗ owes (c : Thread nD τ) O W ∗ levAts L lv ∗ atPos ER (barCell c) 0 ∅ 0)
      ⊢ iprop((owes (c : Thread nD τ) O (insert (SemLoc.reg barS, ()) W) ∗ atPos ER (barCell c) (0 + 1) ∅ 0
            ∗ bigSep (Finset.univ.erase c) (fun d => barPay (F := F) c d) -∗ Rest c k Q)
          -∗ wp frame (wpE (defs₀ (F := F)) 𝒱₀ (c : Thread nD τ) none) Set.univ (.op (.semWait barS a) k) Q) := by
  subst ha
  iintro ⟨HI, Hc, HO, Hl, Ha⟩ Hk
  iapply (Rounds.wp_wait_rest_token 𝒱₀ ER (Rd m) (c : Thread nD τ) none (κ := κ)
      (wpE_semWait_eq 𝒱₀ (c : Thread nD τ) none Set.univ) (Set.mem_univ _) () (O := O) (W := W) (R := 0) (m := 0) (T := ∅)
      (by rw [expect_bar])) $$ [HI Hc HO Hl Ha]
  · isplitl [HI]; · iexact HI
    isplitl [Hc]; · iexact Hc
    isplitl [HO]; · iexact HO
    isplitl [Hl]; · iapply (mayWait_bar c O hO); iexact Hl
    iexact Ha
  iintro ⟨HO, Ha, -, Hp⟩
  ihave Hp := (Entails.of_eq (rest_bar m c)) $$ Hp
  iapply Hk
  isplitl [HO]; · iexact HO
  isplitl [Ha] <;> iassumption

/-- The wait for the block of device `p`. -/
theorem step_recv {p : Dev nD} (hp : p ≠ c) {κ : ℕ} (W : Waits sig Unit)
    {sp sp' : Space} {s s' : Shape} {e e' : EltTy} {src : Memref sig .tc sp s e} {dst : Memref sig .tc sp' s' e'}
    {h1 : src.view.WordExact} {h2 : dst.view.WordExact} (hN : dst.view.dmaCredit = N) :
    iprop(cellInv ER (Rd m) κ (recvCell c p) ∗ cred (tallyAt (recvCell c p) () N) ∗ owes (c : Thread nD τ) 0 W ∗ atPos ER (recvCell c p) 0 ∅ 0)
      ⊢ iprop((owes (c : Thread nD τ) 0 (insert (SemLoc.dma (semOf cc0_scratch8 p), ()) W) ∗ atPos ER (recvCell c p) (0 + 1) ∅ 0
            ∗ recvPay m c p -∗ Rest c k Q)
          -∗ wp frame (wpE (defs₀ (F := F)) 𝒱₀ (c : Thread nD τ) none) Set.univ
              (.op (.waitDma2 (semOf cc0_scratch8 p) src dst h1 h2) k) Q) := by
  iintro ⟨HI, Hc, HO, Ha⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv m c p hp, hN])) $$ [HI Hc HO Ha]
  · isplitl [HI]; · iexact HI
    isplitl [Hc]; · rw [hN]; iexact Hc
    isplitl [HO]; · iexact HO
    isplitr; · rw [MayWait_zero]; iempintro
    iexact Ha
  iintro ⟨HO, Ha, -, Hp⟩
  ihave Hp := (Entails.of_eq (rest_recv m c p hp)) $$ Hp
  iapply Hk
  isplitl [HO]; · iexact HO
  isplitl [Ha] <;> iassumption

/-- The wait for the departure of the block to device `j`. -/
theorem step_sent {j : Dev nD} (hj : j ≠ c) {κ : ℕ} (W : Waits sig Unit)
    {sp sp' : Space} {s s' : Shape} {e e' : EltTy} {src : Memref sig .tc sp s e} {dst : Memref sig .tc sp' s' e'}
    {h1 : src.view.WordExact} {h2 : dst.view.WordExact} (hN : dst.view.dmaCredit = N) :
    iprop(cellInv ER (Rd m) κ (sendCell c j) ∗ cred (tallyAt (sendCell c j) () N) ∗ owes (c : Thread nD τ) 0 W ∗ atPos ER (sendCell c j) 0 ∅ 0)
      ⊢ iprop((owes (c : Thread nD τ) 0 (insert (SemLoc.dma (semOf cc0_scratch7 j), ()) W) ∗ atPos ER (sendCell c j) (0 + 1) ∅ 0
            ∗ (∃ f, sendPts (F := F) c j f) -∗ Rest c k Q)
          -∗ wp frame (wpE (defs₀ (F := F)) 𝒱₀ (c : Thread nD τ) none) Set.univ
              (.op (.waitDma2 (semOf cc0_scratch7 j) src dst h1 h2) k) Q) := by
  iintro ⟨HI, Hc, HO, Ha⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send m c j hj, hN])) $$ [HI Hc HO Ha]
  · isplitl [HI]; · iexact HI
    isplitl [Hc]; · rw [hN]; iexact Hc
    isplitl [HO]; · iexact HO
    isplitr; · rw [MayWait_zero]; iempintro
    iexact Ha
  iintro ⟨HO, Ha, -, Hp⟩
  ihave Hp := (Entails.of_eq (rest_send m c j hj)) $$ Hp
  iapply Hk
  isplitl [HO]; · iexact HO
  isplitl [Ha]; · iexact Ha
  unfold sendPay; iexact Hp

theorem slot_credit (j : Dev nD) : (slotOf rM j).view.dmaCredit = N := by revert j; decide +kernel

/-- The transfer of the block for device `j`, which device `j`'s slot for this one receives. -/
theorem step_send {j n : Dev nD} (hn : n = j) (hj : j ≠ c) {κ₁ κ₂ : ℕ} (O : CellTallies nD τ sig Unit) (W : Waits sig Unit)
    {fs : Buf (Elt F) (sM.view.loc (c : Thread nD τ))} (hfs : (slotOf sM j).view.read (Elt F) fs = sent m c j)
    (fd : Buf (Elt F) (rM.view.loc (j : Thread nD τ)))
    {hsc : (slotOf rM c : Memref sig (Dev.tc n : Thread nD τ).2.kind .vmem S1024x512 .bf16).view.ref.isScScratch = false}
    {hsrc : (slotOf sM j).view.WordExact} {hdst : (slotOf rM c).view.WordExact}
    {hsem : DmaTarget.Typed .vmem (.dma (semOf cc0_scratch8 c)) (.remote (Dev.tc n : Thread nD τ) (slotOf rM c) (.dma (semOf cc0_scratch7 j)) hsc)} :
    iprop(cellInv ER (Rd m) κ₁ (sendCell c j) ∗ cellInv ER (Rd m) κ₂ (recvCell j c)
        ∗ sendPts c j fs ∗ recvPts j c fd ∗ owes (c : Thread nD τ) (O + tallyAt (recvCell j c) () N) W
        ∗ dutyTok ER (sendCell c j) 0 0 ∗ reached ER (sendCell c j) 0 ∗ dutyTok ER (recvCell j c) 0 0 ∗ reached ER (recvCell j c) 0)
      ⊢ iprop(((cred (tallyAt (sendCell c j) () N) ∗ owes (c : Thread nD τ) O W) -∗ Rest c k Q)
          -∗ wp frame (wpE (defs₀ (F := F)) 𝒱₀ (c : Thread nD τ) none) Set.univ
              (.op (.enqueueDma (slotOf sM j) (.remote (Dev.tc n : Thread nD τ) (slotOf rM c) (.dma (semOf cc0_scratch7 j)) hsc)
                (.dma (semOf cc0_scratch8 c)) hsrc hdst hsem) k) Q) := by
  subst hn
  have h := Rounds.wp_send_pointsTo (defs := defs₀ (F := F)) (Γ := .empty) (k := k) (Q := Q) 𝒱₀ ER (Rd m) (c : Thread nD τ) none (c' := (n : Thread nD τ)) (κ₁ := κ₁) (κ₂ := κ₂)
    (src := slotOf sM n) (dst := slotOf rM c) (hsc := hsc) (sS := .dma (semOf cc0_scratch7 n)) (sem := .dma (semOf cc0_scratch8 c))
    (hsrc := hsrc) (hdst := hdst) (hsem := hsem) (q := fullShare) (fs := fs)
    (r₁ := 0) (r₂ := 0) (d₁ := 0) (d₂ := 0) (fd := fd) (Es := Set.univ)
    (by rw [duties_send m c n hj]; exact Finset.mem_singleton_self _) (by rw [duties_recv m n c hj.symm]; exact Finset.mem_singleton_self _)
    () () N (slot_credit c) (amount_dma m c 0 _) (amount_dma m n 0 _) O rfl (W := W)
    (by rw [payload_send]; unfold sendPay; rw [slotOf_set sM n]; iintro H; iexists fs; iexact H)
    (by
      rw [payload_recv]; unfold recvPay; rw [slotOf_set rM c]
      iintro H
      iexists _
      isplitr
      rotate_left
      · iexact H
      · ipureintro; rw [View.read_write_univ, hfs])
  rw [slotOf_set sM n, slotOf_set rM c] at h
  exact h

/-- A cell whose round is over is the core's again, at zero. -/
theorem close_cell (g : GSem nD τ sig) (R κ : ℕ) (h : ∀ r, R ≤ r → (Rd (F := F) m).duties g r = ∅) :
    iprop(cellInv ER (Rd m) κ g ∗ atPos ER g R ∅ 0) ⊢ |={Set.univ}=> (semVal g 0 : sProp 𝕄) :=
  Rounds.cell_close ER (Rd m) (Set.mem_univ κ) (fun h => h) (R := R) h

end Steps

end Cert.KernelIdealProof

end
-- ==== Proof.KernelIdealGuards.lean ====
/-
  The guarded regions of the all-to-all: one rule per kind of region, from what is held before it to what is held after it. A region's
  guard compares the device with a constant; what a device holds where a guard fails for it is said in the same words.
-/
module

public import proofs.«01_k».proof.Proof.KernelIdealSteps
public import Idealize.ShloMosaic.Lib.WritesUnit
public import Idealize.ShloMosaic.Lib.Pipeline.Value

@[expose] public section

noncomputable section

namespace Cert.KernelIdealProof

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev oM : Memref sig .tc .vmem S4096x512 .f32 := Memref.whole cc0_stg0_0

/-! ## What is held between the regions -/

/-- Device `c`'s result buffer, holding what it should where `S` says so. -/
def OutSt (c : Dev nD) (S : S4096x512.Idx → Prop) : sProp 𝕄 :=
  iprop(∃ f, ⌜∀ i, S i → oM.view.read (Elt F) f i = outAt m c i⌝ ∗ (oM.view.loc (c : Thread nD τ) ↦{fullShare} f))

/-- The own rows, the chunks before `k`; -/
def Own (c : Dev nD) (k : ℕ) (i : S4096x512.Idx) : Prop := (i 0).val / 1024 = c.val ∧ 2 * c.val + (i 1).val / 256 < k
/-- the own rows and those of the devices before `p`. -/
def Got (c : Dev nD) (p : ℕ) (i : S4096x512.Idx) : Prop := (i 0).val / 1024 = c.val ∨ (i 0).val / 1024 < p

/-- An index of slot `j`. -/
abbrev slotIx (j : Dev nD) (i : S1024x512.Idx) : S4x1024x512.Idx := ix3 ⟨j.val, j.isLt⟩ ⟨(i 0).val, (i 0).isLt⟩ ⟨(i 1).val, (i 1).isLt⟩

theorem slot_read (M : Memref sig .tc .vmem S4x1024x512 .bf16) (j : Dev nD) (f : M.view.ty.Contents (Elt F)) (i : S1024x512.Idx) :
    (slotOf M j).view.read (Elt F) f i = M.view.read (Elt F) f (slotIx j i) := by
  show M.view.read (Elt F) f ((slotBox j).emb (Shape.reshapeEquiv _ i)) = _
  refine congrArg _ ?_
  have h := Shape.reshapeEquiv_cons_one (n := 2) (d := ![1024, 512]) squeezes_S1x1024x512_S1024x512.numel_eq i
  funext a
  apply Fin.ext
  show (![j.val, 0, 0] : Fin 3 → ℕ) a + 1 * (Shape.reshapeEquiv squeezes_S1x1024x512_S1024x512.numel_eq i a).val = _
  rw [h]
  match a with
  | ⟨0, _⟩ => rfl
  | ⟨1, _⟩ => show 0 + 1 * (i 0).val = (i 0).val; omega
  | ⟨2, _⟩ => show 0 + 1 * (i 1).val = (i 1).val; omega

/-- Slot `j` of device `c`'s send buffer, its first `h` half blocks computed unless the slot is the device's own. -/
def SendSt (c j : Dev nD) (h : ℕ) : sProp 𝕄 :=
  iprop(∃ f, ⌜j ≠ c → ∀ i : S1024x512.Idx, (i 1).val / 256 < h → sM.view.read (Elt F) f (slotIx j i) = sent m c j i⌝ ∗ sendPts c j f)

/-- A resource that concerns device `j` as another device than `c`. -/
def Other (c j : Dev nD) (P : sProp 𝕄) : sProp 𝕄 := if j = c then iprop(emp) else P
theorem Other_self (c : Dev nD) (P : sProp 𝕄) : Other c c P = iprop(emp) := if_pos rfl
theorem Other_ne {c j : Dev nD} (h : j ≠ c) (P : sProp 𝕄) : Other c j P = P := if_neg h

/-- Slot `j` of the own receive buffer, once the other devices have been signalled. -/
def SlotSt (c j : Dev nD) : sProp 𝕄 := if j = c then iprop(∃ f, recvPts (F := F) c j f) else iprop(emp)
/-- What is held of a block sent to device `j` until it has departed. -/
def GoneSt (c j : Dev nD) : sProp 𝕄 := if j = c then iprop(∃ f, sendPts (F := F) c j f) else cred (tallyAt (sendCell c j) () N)

/-! ## The cells, and what every device knows of them -/

/-- A device's cells: its barrier, its send semaphores, its receive semaphores. -/
abbrev CellIx : Type := Option (Bool × Dev nD)
def kcell : Dev nD × CellIx → GSem nD τ sig
  | (c, none) => barCell c
  | (c, some (false, j)) => sendCell c j
  | (c, some (true, p)) => recvCell c p

/-- Every cell is under its invariant and at its first round. -/
def records (K : Dev nD × CellIx → ℕ) : sProp 𝕄 :=
  iprop((bigSep Finset.univ fun ck : Dev nD × CellIx => cellInv ER (Rd m) (K ck) (kcell ck))
    ∗ bigSep Finset.univ fun ck : Dev nD × CellIx => reached ER (kcell ck) 0)
instance records_persistent (K : Dev nD × CellIx → ℕ) : BI.Persistent (records m K) := by unfold records; infer_instance

theorem records_inv (K : Dev nD × CellIx → ℕ) (ck : Dev nD × CellIx) : records m K ⊢ cellInv ER (Rd m) (K ck) (kcell ck) := by
  have h : (bigSep Finset.univ fun ck : Dev nD × CellIx => cellInv ER (Rd m) (K ck) (kcell ck)) ⊢ cellInv ER (Rd m) (K ck) (kcell ck) :=
    bigSep_elim (Finset.mem_univ ck)
  unfold records; iintro ⟨H, -⟩; iapply h; iexact H
theorem records_reached (K : Dev nD × CellIx → ℕ) (ck : Dev nD × CellIx) : records m K ⊢ reached ER (kcell ck) 0 := by
  have h : (bigSep Finset.univ fun ck : Dev nD × CellIx => (reached ER (kcell ck) 0 : sProp 𝕄)) ⊢ reached ER (kcell ck) 0 :=
    bigSep_elim (Finset.mem_univ ck)
  unfold records; iintro ⟨-, H⟩; iapply h; iexact H

theorem records_signal (K : Dev nD × CellIx → ℕ) (c j : Dev nD) :
    records m K ⊢ iprop(cellInv ER (Rd m) (K (j, none)) (barCell j) ∗ reached ER (recvCell c j) 0 ∗ reached ER (barCell j) 0) := by
  iintro #H
  isplitr; · iapply (records_inv m K (j, none)); iexact H
  isplitr; · iapply (records_reached m K (c, some (true, j))); iexact H
  iapply (records_reached m K (j, none)); iexact H
theorem records_send (K : Dev nD × CellIx → ℕ) (c j : Dev nD) :
    records m K ⊢ iprop(cellInv ER (Rd m) (K (c, some (false, j))) (sendCell c j) ∗ cellInv ER (Rd m) (K (j, some (true, c))) (recvCell j c)
      ∗ reached ER (sendCell c j) 0) := by
  iintro #H
  isplitr; · iapply (records_inv m K (c, some (false, j))); iexact H
  isplitr; · iapply (records_inv m K (j, some (true, c))); iexact H
  iapply (records_reached m K (c, some (false, j))); iexact H

section Guards
variable {c : Dev nD} {α : Type} {Q : α → sProp (MT nD τ sig Unit (Elt F) ℕ UU ℕ)} {P : Prog (TpuEff nD τ sig (Elt F) Λ₀ .tc) α}
variable {b : Prop} [Decidable b]

/-- The signal to device `j`. -/
theorem guard_signal {j : Dev nD} (hb : b ↔ j ≠ c) {n : b → Dev nD} (hn : ∀ h, n h = j) (K : Dev nD × CellIx → ℕ) (O : CellTallies nD τ sig Unit) (W : Waits sig Unit) :
    iprop(records m K ∗ owes (c : Thread nD τ) (O + owBar c j) W ∗ Other c j (dutyTok ER (barCell j) 0 c) ∗ (∃ f, recvPts (F := F) c j f))
      ⊢ iprop((owes (c : Thread nD τ) O W ∗ SlotSt c j -∗ wp frame (wpE (defs₀ (F := F)) 𝒱₀ (c : Thread nD τ) none) Set.univ P Q)
          -∗ wp frame (wpE (defs₀ (F := F)) 𝒱₀ (c : Thread nD τ) none) Set.univ (if h : b then do
              semSignalWord (n h) barS 1#32
              P
            else P) Q) := by
  by_cases h : b
  · have hj := hb.mp h
    rw [dif_pos h, Other_ne hj]
    unfold owBar SlotSt
    rw [if_neg hj, if_neg hj]
    iintro ⟨HK, HO, Ht, ⟨%f, Hr⟩⟩ Hk
    icases (records_signal m K c j) $$ HK with ⟨HI, HR, HB⟩
    iapply (step_signal m (c := c) (hn h) hj (a := (1#32).toInt) rfl O W f) $$ [HI HO Ht Hr HR HB]
    · isplitl [HI]; · iexact HI
      isplitl [HO]; · iexact HO
      isplitl [Ht]; · iexact Ht
      isplitl [Hr]; · iexact Hr
      isplitl [HR] <;> iassumption
    iintro HO
    iapply Hk
    isplitl [HO]; · iexact HO
    iempintro
  · have hj : j = c := by by_contra h'; exact h (hb.mpr h')
    subst hj
    rw [dif_neg h, Other_self]
    unfold owBar SlotSt
    rw [if_pos rfl, if_pos rfl, add_zero]
    iintro ⟨-, HO, -, Hr⟩ Hk
    iapply Hk
    isplitl [HO] <;> iassumption

/-- The wait for the three other devices' signals. -/
theorem guard_barrier (K : Dev nD × CellIx → ℕ) (O : CellTallies nD τ sig Unit) (hO : DebtRecv O) (W : Waits sig Unit) :
    iprop(records m K ∗ levAts L lv ∗ cred (tallyAt (barCell c) () 3) ∗ owes (c : Thread nD τ) O W ∗ atPos ER (barCell c) 0 ∅ 0)
      ⊢ iprop((owes (c : Thread nD τ) O (insert (SemLoc.reg barS, ()) W) ∗ atPos ER (barCell c) (0 + 1) ∅ 0
            ∗ bigSep (Finset.univ.erase c) (fun d => barPay (F := F) c d) -∗ wp frame (wpE (defs₀ (F := F)) 𝒱₀ (c : Thread nD τ) none) Set.univ P Q)
          -∗ wp frame (wpE (defs₀ (F := F)) 𝒱₀ (c : Thread nD τ) none) Set.univ (do
            semWaitWord barS 3#32
            P) Q) := by
  simp only [semWaitWord, Prog.lift, Prog.bind_op, Prog.bind_ret]
  iintro ⟨HK, Hl, Hc, HO, Ha⟩ Hk
  iapply (step_barrier m (c := c) (a := (3#32).toInt) rfl O hO W (κ := K (c, none))) $$ [HK Hl HO Ha Hc]
  · isplitl [HK]; · iapply (records_inv m K (c, none)); iexact HK
    isplitl [Hc]; · iexact Hc
    isplitl [HO]; · iexact HO
    isplitl [Hl]; · iexact Hl
    iexact Ha
  iexact Hk

/-- The store of chunk `k` into the own rows. -/
theorem guard_own {j : Dev nD} (hb : b ↔ j = c) (h : Fin 2) (k : Fin 8) (hk : k.val = 2 * j.val + h.val) {off : Fin 2 → ℕ}
    (hoff : off = ![1024 * c.val, 256 * h.val]) {w : Vec F S1024x256 .f32}
    {inb : b → ∀ a, off a + S1024x256.size a ≤ S4096x512.size a}
    {hl : ∀ hh : b, oM.view.LoadsAt (Rect.unit (s := S4096x512) off S1024x256.size (inb hh)).toLoadRect}
    {hs : ∀ hh : b, (oM.access (Rect.unit (s := S4096x512) off S1024x256.size (inb hh))).Stores Finset.univ}
    {hm : ∀ hh : b, (Finset.univ : Finset (Rect.unit (s := S4096x512) off S1024x256.size (inb hh)).shape.Idx) = Finset.univ ∨ ∀ a, (Rect.unit (s := S4096x512) off S1024x256.size (inb hh)).stride a = 1} :
    iprop(⌜w = chunk m c k⌝ ∗ OutSt m c (Own c k))
      ⊢ iprop((OutSt m c (Own c (k + 1)) -∗ wp frame (wpE (defs₀ (F := F)) 𝒱₀ (c : Thread nD τ) none) Set.univ P Q)
          -∗ wp frame (wpE (defs₀ (F := F)) 𝒱₀ (c : Thread nD τ) none) Set.univ (if hh : b then do
              let _v ← Prog.lift (.load oM (Rect.unit (s := S4096x512) off S1024x256.size (inb hh)).toLoadRect (hl hh))
              Prog.lift (.store oM (Rect.unit (s := S4096x512) off S1024x256.size (inb hh)) w Finset.univ (hs hh) (hm hh))
              P
            else P) Q) := by
  unfold OutSt
  iintro ⟨%hw, ⟨%f, %hf, Ho⟩⟩ Hk
  by_cases hh : b
  · have hj := hb.mp hh
    subst hj
    rw [dif_pos hh]
    simp only [Prog.lift, Prog.bind_op, Prog.bind_ret, Prog.pure_eq_ret]
    iapply (wp_load 𝒱₀ (j : Thread nD τ) none Set.univ (m := oM) (Finset.subset_univ _)) $$ [Ho]
    · iexact Ho
    iintro Ho
    iapply (wp_store 𝒱₀ (j : Thread nD τ) none Set.univ (m := oM) (r := Rect.unit (s := S4096x512) off S1024x256.size (inb hh)) (Mk := Finset.univ) (Finset.subset_univ _)) $$ [Ho]
    · iexact Ho
    iintro Ho
    iapply Hk
    iexists _
    isplitr
    rotate_left
    · iexact Ho
    · ipureintro
      intro i hi
      refine (View.read_writes_cons_unit oM.view f (inb hh) w [] i hoff).trans ?_
      have h0 : (i 0).val < 4096 := (i 0).isLt
      have h1 : (i 1).val < 512 := (i 1).isLt
      have hh2 := h.isLt
      split
      · next hin =>
        have e0 := hin 0; have e1 := hin 1
        change 1024 * j.val ≤ (i 0).val ∧ (i 0).val < 1024 * j.val + 1024 at e0
        change 256 * h.val ≤ (i 1).val ∧ (i 1).val < 256 * h.val + 256 at e1
        unfold outAt half
        rw [if_pos hi.1, hw]
        have ek : k = ⟨2 * j.val + (i 1).val / 256, by have : j.val < 4 := j.isLt; omega⟩ := Fin.ext (by show k.val = 2 * j.val + (i 1).val / 256; omega)
        rw [ek]
        refine congrArg _ (funext fun a => Fin.ext ?_)
        match a with
        | ⟨0, _⟩ => show (i 0).val - 1024 * j.val = (i 0).val % 1024; omega
        | ⟨1, _⟩ => show (i 1).val - 256 * h.val = (i 1).val % 256; omega
      · next hin =>
        refine hf i ⟨hi.1, ?_⟩
        have h1' := hi.1; have h2' := hi.2
        by_contra hlt
        refine hin (Fin.forall_fin_two.mpr ⟨?_, ?_⟩)
        · show 1024 * j.val ≤ (i 0).val ∧ (i 0).val < 1024 * j.val + 1024; omega
        · show 256 * h.val ≤ (i 1).val ∧ (i 1).val < 256 * h.val + 256; omega
  · rw [dif_neg hh]
    iapply Hk
    iexists f
    isplitr
    · ipureintro
      intro i hi
      have hj : j.val ≠ c.val := fun e => hh (hb.mpr (Fin.ext e))
      have := h.isLt
      exact hf i ⟨hi.1, by have h1 : (i 1).val < 512 := (i 1).isLt; have h2 := hi.2; omega⟩
    · iexact Ho

/-- The store of half a block for device `j` into the send buffer. -/
theorem guard_other {j : Dev nD} (hb : b ↔ j ≠ c) (h : Fin 2) (k : Fin 8) (hk : k.val = 2 * j.val + h.val) {off : Fin 3 → ℕ}
    (hoff : off = ![j.val, 0, 256 * h.val]) {w : Vec F S1x1024x256 .bf16}
    {inb : ∀ a, off a + S1x1024x256.size a ≤ S4x1024x512.size a}
    {hl : sM.view.LoadsAt (Rect.unit (s := S4x1024x512) off S1x1024x256.size inb).toLoadRect}
    {hs : (sM.access (Rect.unit (s := S4x1024x512) off S1x1024x256.size inb)).Stores Finset.univ}
    {hm : (Finset.univ : Finset (Rect.unit (s := S4x1024x512) off S1x1024x256.size inb).shape.Idx) = Finset.univ ∨ ∀ a, (Rect.unit (s := S4x1024x512) off S1x1024x256.size inb).stride a = 1} :
    iprop(⌜w = shapeCast S1x1024x256 (truncf .bf16 (chunk m c k) bitsLt_bf16_f32) shapeCasts_S1024x256_S1x1024x256⌝ ∗ SendSt m c j h)
      ⊢ iprop((SendSt m c j (h + 1) -∗ wp frame (wpE (defs₀ (F := F)) 𝒱₀ (c : Thread nD τ) none) Set.univ P Q)
          -∗ wp frame (wpE (defs₀ (F := F)) 𝒱₀ (c : Thread nD τ) none) Set.univ (if hh : b then do
              let _v ← Prog.lift (.load sM (Rect.unit (s := S4x1024x512) off S1x1024x256.size inb).toLoadRect hl)
              Prog.lift (.store sM (Rect.unit (s := S4x1024x512) off S1x1024x256.size inb) w Finset.univ hs hm)
              P
            else P) Q) := by
  unfold SendSt
  iintro ⟨%hw, ⟨%f, %hf, Ho⟩⟩ Hk
  have hh2 := h.isLt
  have hsub : (Rect.unit (s := S4x1024x512) off S1x1024x256.size inb).set ⊆ (slotBox j).set := by
    subst hoff
    intro x hx
    rw [Rect.mem_set_unit] at hx ⊢
    intro a
    have := hx a
    match a with
    | ⟨0, _⟩ => exact this
    | ⟨1, _⟩ => exact this
    | ⟨2, _⟩ =>
      change 256 * h.val ≤ (x 2).val ∧ (x 2).val < 256 * h.val + 256 at this
      show 0 ≤ (x 2).val ∧ (x 2).val < 0 + 512
      omega
  by_cases hh : b
  · have hj := hb.mp hh
    rw [dif_pos hh]
    simp only [Prog.lift, Prog.bind_op, Prog.bind_ret, Prog.pure_eq_ret]
    iapply (wp_load 𝒱₀ (c : Thread nD τ) none Set.univ (m := sM) (S := slotSet sM j) (Finset.map_subset_map.mpr hsub)) $$ [Ho]
    · iexact Ho
    iintro Ho
    iapply (wp_store 𝒱₀ (c : Thread nD τ) none Set.univ (m := sM) (r := Rect.unit (s := S4x1024x512) off S1x1024x256.size inb) (Mk := Finset.univ) (S := slotSet sM j)
      (by rw [View.setOn_univ, View.set_slice]; exact Finset.map_subset_map.mpr hsub)) $$ [Ho]
    · iexact Ho
    iintro Ho
    iapply Hk
    iexists _
    isplitr
    rotate_left
    · iexact Ho
    · ipureintro
      intro _ i hi
      refine (View.read_writes_cons_unit sM.view f inb w [] (slotIx j i) hoff).trans ?_
      have h0 : (i 0).val < 1024 := (i 0).isLt
      have h1 : (i 1).val < 512 := (i 1).isLt
      split
      · next hin =>
        have e1 := hin 2
        change 256 * h.val ≤ (i 1).val ∧ (i 1).val < 256 * h.val + 256 at e1
        unfold sent half
        rw [hw]
        have ek : k = ⟨2 * j.val + (i 1).val / 256, by have : j.val < 4 := j.isLt; omega⟩ := Fin.ext (by show k.val = 2 * j.val + (i 1).val / 256; omega)
        rw [ek]
        refine (shapeCast_addUnit_apply (n := 2) ![1024, 256] _ shapeCasts_S1024x256_S1x1024x256 _).trans ?_
        refine congrArg _ (funext fun a => Fin.ext ?_)
        match a with
        | ⟨0, _⟩ => show (i 0).val - 0 = (i 0).val; omega
        | ⟨1, _⟩ => show (i 1).val - 256 * h.val = (i 1).val % 256; omega
      · next hin =>
        refine hf hj i ?_
        by_contra hlt
        refine hin ?_
        intro a
        match a with
        | ⟨0, _⟩ => show j.val ≤ j.val ∧ j.val < j.val + 1; omega
        | ⟨1, _⟩ => show 0 ≤ (i 0).val ∧ (i 0).val < 0 + 1024; omega
        | ⟨2, _⟩ => show 256 * h.val ≤ (i 1).val ∧ (i 1).val < 256 * h.val + 256; omega
  · rw [dif_neg hh]
    iapply Hk
    iexists f
    isplitr
    · ipureintro
      intro hj
      exact absurd (hb.mpr hj) hh
    · iexact Ho

/-- The transfer of the block for device `j`. -/
theorem guard_send {j : Dev nD} (hb : b ↔ j ≠ c) {n : b → Dev nD} (hn : ∀ h, n h = j) (K : Dev nD × CellIx → ℕ) (O : CellTallies nD τ sig Unit) (W : Waits sig Unit)
    {src : Memref sig .tc .vmem S1024x512 .bf16} (hsrc : src = slotOf sM j)
    {dst : b → Memref sig .tc .vmem S1024x512 .bf16} (hdst : ∀ h, dst h = slotOf rM c)
    {q : DmaSem sig} (hq : q = semOf cc0_scratch7 j) {q' : b → DmaSem sig} (hq' : ∀ h, q' h = semOf cc0_scratch8 c)
    {e₁ : ∀ h : b, (dst h : Memref sig (Dev.tc (n h) : Thread nD τ).2.kind .vmem S1024x512 .bf16).view.ref.isScScratch = false}
    {e₂ : src.view.WordExact} {e₃ : ∀ h, (dst h).view.WordExact}
    {e₄ : ∀ h, DmaTarget.Typed .vmem (.dma (q' h)) (.remote (Dev.tc (n h) : Thread nD τ) (dst h) (.dma q) (e₁ h))} :
    iprop(records m K ∗ owes (c : Thread nD τ) (O + owRecv c j) W ∗ SendSt m c j 2
        ∗ Other c j (barPay (F := F) c j) ∗ Other c j (iprop(dutyTok ER (sendCell c j) 0 0 ∗ dutyTok ER (recvCell j c) 0 0)))
      ⊢ iprop((owes (c : Thread nD τ) O W ∗ GoneSt c j -∗ wp frame (wpE (defs₀ (F := F)) 𝒱₀ (c : Thread nD τ) none) Set.univ P Q)
          -∗ wp frame (wpE (defs₀ (F := F)) 𝒱₀ (c : Thread nD τ) none) Set.univ (if h : b then do
              Prog.lift (.enqueueDma src (.remote (Dev.tc (n h) : Thread nD τ) (dst h) (.dma q) (e₁ h)) (.dma (q' h)) e₂ (e₃ h) (e₄ h))
              P
            else P) Q) := by
  by_cases h : b
  · have hj := hb.mp h
    rw [dif_pos h, Other_ne hj, Other_ne hj]
    obtain rfl := hsrc
    obtain rfl := hq
    generalize e₁ h = e₁', e₃ h = e₃', e₄ h = e₄'
    revert e₁' e₃' e₄'
    rw [hdst h, hq' h]
    intro e₁' e₃' e₄'
    unfold owRecv GoneSt SendSt barPay
    rw [if_neg hj, if_neg hj]
    simp only [Prog.lift, Prog.bind_op, Prog.bind_ret, Prog.pure_eq_ret]
    iintro ⟨HK, HO, ⟨%f, %hf, Hs⟩, ⟨⟨%fd, Hd⟩, HR⟩, ⟨Ht, Ht'⟩⟩ Hk
    icases (records_send m K c j) $$ HK with ⟨HI, HI', HS⟩
    have hfs : (slotOf sM j).view.read (Elt F) f = sent m c j := funext fun i =>
      (slot_read sM j f i).trans (hf hj i (by have h1 : (i 1).val < 512 := (i 1).isLt; omega))
    iapply (step_send m (c := c) (hn h) hj O W hfs fd) $$ [HI HI' HS HO Hs Hd HR Ht Ht']
    · isplitl [HI]; · iexact HI
      isplitl [HI']; · iexact HI'
      isplitl [Hs]; · iexact Hs
      isplitl [Hd]; · iexact Hd
      isplitl [HO]; · iexact HO
      isplitl [Ht]; · iexact Ht
      isplitl [HS]; · iexact HS
      isplitl [Ht'] <;> iassumption
    iintro ⟨Hc, HO⟩
    iapply Hk
    isplitl [HO] <;> iassumption
  · have hj : j = c := by by_contra h'; exact h (hb.mpr h')
    rw [dif_neg h]
    subst hj
    unfold owRecv GoneSt SendSt
    rw [if_pos rfl, if_pos rfl, add_zero]
    iintro ⟨-, HO, ⟨%f, %hf, Hs⟩, -, -⟩ Hk
    iapply Hk
    isplitl [HO]; · iexact HO
    iexists f; iexact Hs

/-- The wait for device `p`'s block and its store into the rows of `p`; the cell is the core's again. -/
theorem guard_recv {p : Dev nD} (hb : b ↔ p ≠ c) (K : Dev nD × CellIx → ℕ) {q : DmaSem sig} (hq : q = semOf cc0_scratch8 p)
    {src dst : Memref sig .tc .vmem S1024x512 .bf16} (hdst : dst = slotOf rM p) {e₂ : src.view.WordExact} {e₃ : dst.view.WordExact}
    {off : Fin 3 → ℕ} (hoff : off = ![p.val, 0, 0]) {inb : ∀ a, off a + S1x1024x512.size a ≤ S4x1024x512.size a}
    {off' : Fin 2 → ℕ} (hoff' : off' = ![1024 * p.val, 0]) {inb' : ∀ a, off' a + S1024x512.size a ≤ S4096x512.size a}
    {w : Vec F S1x1024x512 .bf16 → Vec F S1024x512 .f32}
    (hw : ∀ v, w v = extf .f32 (shapeCast S1024x512 v shapeCasts_S1x1024x512_S1024x512) bitsLt_bf16_f32)
    {hl : rM.view.LoadsAt (Rect.unit (s := S4x1024x512) off S1x1024x512.size inb).toLoadRect}
    {hl' : oM.view.LoadsAt (Rect.unit (s := S4096x512) off' S1024x512.size inb').toLoadRect}
    {hs : (oM.access (Rect.unit (s := S4096x512) off' S1024x512.size inb')).Stores Finset.univ}
    {hm : (Finset.univ : Finset (Rect.unit (s := S4096x512) off' S1024x512.size inb').shape.Idx) = Finset.univ ∨ ∀ a, (Rect.unit (s := S4096x512) off' S1024x512.size inb').stride a = 1} :
    iprop(records m K ∗ (∃ W, owes (c : Thread nD τ) 0 W) ∗ atPos ER (recvCell c p) 0 ∅ 0
        ∗ Other c p (cred (tallyAt (recvCell c p) () N)) ∗ SlotSt c p ∗ OutSt m c (Got c p))
      ⊢ iprop((((∃ W, owes (c : Thread nD τ) 0 W) ∗ semVal (recvCell c p) 0 ∗ (∃ f, recvPts (F := F) c p f) ∗ OutSt m c (Got c (p + 1))) -∗ wp frame (wpE (defs₀ (F := F)) 𝒱₀ (c : Thread nD τ) none) Set.univ P Q)
          -∗ wp frame (wpE (defs₀ (F := F)) 𝒱₀ (c : Thread nD τ) none) Set.univ (if hh : b then do
              Prog.lift (.waitDma2 q src dst e₂ e₃)
              let v ← Prog.lift (.load rM (Rect.unit (s := S4x1024x512) off S1x1024x512.size inb).toLoadRect hl)
              let _v ← Prog.lift (.load oM (Rect.unit (s := S4096x512) off' S1024x512.size inb').toLoadRect hl')
              Prog.lift (.store oM (Rect.unit (s := S4096x512) off' S1024x512.size inb') (w v) Finset.univ hs hm)
              P
            else P) Q) := by
  unfold OutSt
  by_cases hh : b
  · have hj := hb.mp hh
    rw [dif_pos hh, Other_ne hj]
    subst hq hdst
    unfold SlotSt
    rw [if_neg hj]
    iintro ⟨HK, ⟨%W, HO⟩, Ha, Hc, -, ⟨%f, %hf, Ho⟩⟩ Hk
    ihave #HI := (records_inv m K (c, some (true, p))) $$ HK
    simp only [Prog.lift, Prog.bind_op, Prog.bind_ret, Prog.pure_eq_ret]
    iapply (step_recv m (c := c) hj W (slot_credit p)) $$ [HO Ha Hc]
    · isplitr; · iexact HI
      isplitl [Hc]; · iexact Hc
      isplitl [HO] <;> iassumption
    iintro ⟨HO, Ha, Hp⟩
    ihave Hp := (Entails.of_eq (show recvPay m c p = iprop(∃ f, ⌜(slotOf rM p).view.read (Elt F) f = sent m p c⌝ ∗ recvPts c p f) from rfl)) $$ Hp
    icases Hp with ⟨%g, %hg, Hr⟩
    imod (close_cell m (recvCell c p) (0 + 1) _ (duties_later m _)) $$ [Ha] with Hz
    · isplitr; · iexact HI
      iexact Ha
    iapply (wp_load 𝒱₀ (c : Thread nD τ) none Set.univ (m := rM) (S := slotSet rM p) (by subst hoff; exact Finset.Subset.refl _)) $$ [Hr]
    · iexact Hr
    iintro Hr
    iapply (wp_load 𝒱₀ (c : Thread nD τ) none Set.univ (m := oM) (Finset.subset_univ _)) $$ [Ho]
    · iexact Ho
    iintro Ho
    iapply (wp_store 𝒱₀ (c : Thread nD τ) none Set.univ (m := oM) (r := Rect.unit (s := S4096x512) off' S1024x512.size inb') (Mk := Finset.univ) (Finset.subset_univ _)) $$ [Ho]
    · iexact Ho
    iintro Ho
    iapply Hk
    isplitl [HO]; · iexists _; iexact HO
    isplitl [Hz]; · iexact Hz
    isplitl [Hr]; · iexists g; iexact Hr
    iexists _
    isplitr
    rotate_left
    · iexact Ho
    · ipureintro
      intro i hi
      refine (View.read_writes_cons_unit oM.view f inb' _ [] i hoff').trans ?_
      have h0 : (i 0).val < 4096 := (i 0).isLt
      have h1 : (i 1).val < 512 := (i 1).isLt
      have hne : p.val ≠ c.val := fun e => hj (Fin.ext e)
      split
      · next hin =>
        have e0 := hin 0
        change 1024 * p.val ≤ (i 0).val ∧ (i 0).val < 1024 * p.val + 1024 at e0
        unfold outAt
        rw [if_neg (by omega), hw]
        have ek : (⟨(i 0).val / 1024, by show _ < 4; omega⟩ : Dev nD) = p := Fin.ext (by show (i 0).val / 1024 = p.val; omega)
        rw [ek, ← hg]
        subst hoff
        show extf .f32 ((slotOf rM p).view.read (Elt F) g) bitsLt_bf16_f32 _ = _
        refine congrArg _ (funext fun a => Fin.ext ?_)
        match a with
        | ⟨0, _⟩ => show (i 0).val - 1024 * p.val = (i 0).val % 1024; omega
        | ⟨1, _⟩ => show (i 1).val - 0 = (i 1).val; omega
      · next hin =>
        refine hf i ?_
        rcases hi with hi | hi
        · exact .inl hi
        · refine .inr ?_
          by_contra hlt
          refine hin (Fin.forall_fin_two.mpr ⟨?_, ?_⟩)
          · show 1024 * p.val ≤ (i 0).val ∧ (i 0).val < 1024 * p.val + 1024; omega
          · show 0 ≤ (i 1).val ∧ (i 1).val < 0 + 512; omega
  · have hj : p = c := by by_contra h'; exact hh (hb.mpr h')
    rw [dif_neg hh]
    subst hj
    unfold SlotSt
    rw [if_pos rfl]
    iintro ⟨HK, ⟨%W, HO⟩, Ha, -, Hs, ⟨%f, %hf, Ho⟩⟩ Hk
    ihave #HI := (records_inv m K (p, some (true, p))) $$ HK
    imod (close_cell m (recvCell p p) 0 _ (duties_recv_self m p)) $$ [Ha] with Hz
    · isplitr; · iexact HI
      iexact Ha
    iapply Hk
    isplitl [HO]; · iexists W; iexact HO
    isplitl [Hz]; · iexact Hz
    isplitl [Hs]; · iexact Hs
    iexists f
    isplitr
    · ipureintro
      intro i hi
      refine hf i ?_
      rcases hi with hi | hi
      · exact .inl hi
      · rcases Nat.lt_succ_iff_lt_or_eq.mp hi with h | h
        · exact .inr h
        · exact .inl h
    · iexact Ho

/-- The wait for the departure of the block for device `j`; the cell is the core's again. -/
theorem guard_sent {j : Dev nD} (hb : b ↔ j ≠ c) (K : Dev nD × CellIx → ℕ) {q : DmaSem sig} (hq : q = semOf cc0_scratch7 j)
    {src : Memref sig .tc .vmem S1024x512 .bf16} {dst : b → Memref sig .tc .vmem S1024x512 .bf16} (hdst : ∀ h, (dst h).view.dmaCredit = N)
    {e₂ : src.view.WordExact} {e₃ : ∀ h, (dst h).view.WordExact} :
    iprop(records m K ∗ (∃ W, owes (c : Thread nD τ) 0 W) ∗ atPos ER (sendCell c j) 0 ∅ 0 ∗ GoneSt c j)
      ⊢ iprop((((∃ W, owes (c : Thread nD τ) 0 W) ∗ semVal (sendCell c j) 0 ∗ (∃ f, sendPts (F := F) c j f)) -∗ wp frame (wpE (defs₀ (F := F)) 𝒱₀ (c : Thread nD τ) none) Set.univ P Q)
          -∗ wp frame (wpE (defs₀ (F := F)) 𝒱₀ (c : Thread nD τ) none) Set.univ (if hh : b then do
              Prog.lift (.waitDma2 q src (dst hh) e₂ (e₃ hh))
              P
            else P) Q) := by
  by_cases hh : b
  · have hj := hb.mp hh
    rw [dif_pos hh]
    subst hq
    unfold GoneSt
    rw [if_neg hj]
    iintro ⟨HK, ⟨%W, HO⟩, Ha, Hs⟩ Hk
    ihave #HI := (records_inv m K (c, some (false, j))) $$ HK
    simp only [Prog.lift, Prog.bind_op, Prog.bind_ret, Prog.pure_eq_ret]
    iapply (step_sent m (c := c) hj W (hdst hh)) $$ [HO Ha Hs]
    · isplitr; · iexact HI
      isplitl [Hs]; · iexact Hs
      isplitl [HO] <;> iassumption
    iintro ⟨HO, Ha, Hr⟩
    imod (close_cell m (sendCell c j) (0 + 1) _ (duties_later m _)) $$ [Ha] with Hz
    · isplitr; · iexact HI
      iexact Ha
    iapply Hk
    isplitl [HO]; · iexists _; iexact HO
    isplitl [Hz] <;> iassumption
  · have hj : j = c := by by_contra h'; exact hh (hb.mpr h')
    rw [dif_neg hh]
    subst hj
    unfold GoneSt
    rw [if_pos rfl]
    iintro ⟨HK, ⟨%W, HO⟩, Ha, Hs⟩ Hk
    ihave #HI := (records_inv m K (j, some (false, j))) $$ HK
    imod (close_cell m (sendCell j j) 0 _ (duties_send_self m j)) $$ [Ha] with Hz
    · isplitr; · iexact HI
      iexact Ha
    iapply Hk
    isplitl [HO]; · iexists W; iexact HO
    isplitl [Hz] <;> iassumption

end Guards

end Cert.KernelIdealProof

end
-- ==== Proof.KernelIdealBody.lean ====
/-
  One device's run of the kernel, from what it holds after the launch to what it holds at the end.
-/
module

public import proofs.«01_k».proof.Proof.KernelIdealGuards
public import Idealize.ShloMosaic.Lib.VecWindow

@[expose] public section

noncomputable section

namespace Cert.KernelIdealProof

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The semaphores of the copies inside a device. -/
abbrev xq : DmaSem sig := cc0_scratch5.sem
abbrev wq0 : DmaSem sig := ((cc0_scratch6.slice (Rect.unit (s := S2) ![0] S1.size inb_S2_S1_0)).squeeze S_ squeezes_S1_S_).sem
abbrev wq1 : DmaSem sig := ((cc0_scratch6.slice (Rect.unit (s := S2) ![1] S1.size inb_S2_S1_1)).squeeze S_ squeezes_S1_S_).sem

/-- A whole buffer of device `c`, at given and at some contents. -/
abbrev wholePts {sp : Space} {s : Shape} {e : EltTy} (M : Memref sig .tc sp s e) (c : Dev nD) (f : Buf (Elt F) (M.view.loc (c : Thread nD τ))) : sProp 𝕄 :=
  M.view.loc (c : Thread nD τ) ↦{fullShare} f

/-- The two buffers of the chunks of `w`. -/
abbrev wM : Memref sig .tc .vmem S2x4096x256 .f32 := Memref.whole cc0_scratch2
abbrev wSlot0 : Memref sig .tc .vmem S4096x256 .f32 :=
  (wM.slice (Rect.unit (s := S2x4096x256) ![0, 0, 0] S1x4096x256.size inb_S2x4096x256_S1x4096x256_0_0_0) (fun _ => rfl)).squeeze S4096x256 squeezes_S1x4096x256_S4096x256
abbrev wSlot1 : Memref sig .tc .vmem S4096x256 .f32 :=
  (wM.slice (Rect.unit (s := S2x4096x256) ![1, 0, 0] S1x4096x256.size inb_S2x4096x256_S1x4096x256_1_0_0) (fun _ => rfl)).squeeze S4096x256 squeezes_S1x4096x256_S4096x256
abbrev wPts0 (c : Dev nD) (f : Buf (Elt F) (wSlot0.view.loc (c : Thread nD τ))) : sProp 𝕄 := wSlot0.view.loc (c : Thread nD τ) ↦[wSlot0.view.set]{fullShare} f
abbrev wPts1 (c : Dev nD) (f : Buf (Elt F) (wSlot1.view.loc (c : Thread nD τ))) : sProp 𝕄 := wSlot1.view.loc (c : Thread nD τ) ↦[wSlot1.view.set]{fullShare} f

/-! ## What the loads read -/

/-- A buffer of `w`, read whole, is the copy it received last. -/
theorem w_read (o : ℕ) (inb : ∀ a, (![o, 0, 0] : Fin 3 → ℕ) a + S1x4096x256.size a ≤ S2x4096x256.size a)
    (g : wM.view.ty.Contents (Elt F)) (d : S4096x256.Idx → Elt F .f32)
    (h : ((wM.slice (Rect.unit (s := S2x4096x256) ![o, 0, 0] S1x4096x256.size inb) (fun _ => rfl)).squeeze S4096x256
      squeezes_S1x4096x256_S4096x256).view.read (Elt F) g = d) :
    wM.view.readAt (Elt F) (Rect.unit (s := S2x4096x256) ![o, 0, 0] S1x4096x256.size inb).toLoadRect g
      = fun i : S1x4096x256.Idx => d (ix2 ⟨(i 1).val, (i 1).isLt⟩ ⟨(i 2).val, (i 2).isLt⟩) := by
  subst h
  funext i
  show wM.view.read (Elt F) g ((Rect.unit (s := S2x4096x256) ![o, 0, 0] S1x4096x256.size inb).emb i)
    = wM.view.read (Elt F) g ((Rect.unit (s := S2x4096x256) ![o, 0, 0] S1x4096x256.size inb).emb (Shape.reshapeEquiv _ _))
  refine congrArg _ (congrArg _ ?_)
  have h := Shape.reshapeEquiv_cons_one (n := 2) (d := ![4096, 256]) squeezes_S1x4096x256_S4096x256.numel_eq
    (ix2 ⟨(i 1).val, (i 1).isLt⟩ ⟨(i 2).val, (i 2).isLt⟩)
  refine Eq.trans ?_ h.symm
  funext a
  match a with
  | ⟨0, _⟩ => exact Subsingleton.elim (α := Fin 1) _ _
  | ⟨1, _⟩ => rfl
  | ⟨2, _⟩ => rfl

/-- A copy of 256 columns of `w` brings a chunk of it. -/
theorem w_copy (c : Dev nD) (k : Fin 8) (inb : ∀ a, (![0, 256 * k.val] : Fin 2 → ℕ) a + S4096x256.size a ≤ S4096x2048.size a) :
    (fun i : S1x4096x256.Idx => ((Memref.whole main_arg1).slice (Rect.unit (s := S4096x2048) ![0, 256 * k.val] S4096x256.size inb) (fun _ => rfl)).view.read (Elt F)
        (m ((c : Thread nD τ).loc main_arg1)) (ix2 ⟨(i 1).val, (i 1).isLt⟩ ⟨(i 2).val, (i 2).isLt⟩))
      = wc m c k := by
  funext i
  show (show Vec F S4096x2048 .f32 from m ((c : Thread nD τ).loc main_arg1)) _ = (show Vec F S4096x2048 .f32 from m ((c : Thread nD τ).loc main_arg1)) _
  refine congrArg _ ?_
  funext a
  apply Fin.ext
  match a with
  | ⟨0, _⟩ => show 0 + 1 * (i 1).val = (i 1).val; omega
  | ⟨1, _⟩ => show 256 * k.val + 1 * (i 2).val = 256 * k.val + (i 2).val; omega

/-- A chunk of `w` as the first … -/
theorem w_read0 (c : Dev nD) (k : Fin 8) (inb : ∀ a, (![0, 256 * k.val] : Fin 2 → ℕ) a + S4096x256.size a ≤ S4096x2048.size a)
    (g : wSlot0.view.ty.Contents (Elt F)) (L : List (View.Piece (Elt F) S4096x256 .f32)) :
    wM.view.readAt (Elt F) (Rect.unit (s := S2x4096x256) ![0, 0, 0] S1x4096x256.size inb_S2x4096x256_S1x4096x256_0_0_0).toLoadRect
        (wSlot0.view.writes (Elt F) g (⟨Rect.whole S4096x256, ((Memref.whole main_arg1).slice (Rect.unit (s := S4096x2048) ![0, 256 * k.val] S4096x256.size inb)
          (fun _ => rfl)).view.read (Elt F) (m ((c : Thread nD τ).loc main_arg1))⟩ :: L))
      = wc m c k :=
  (w_read 0 _ _ _ (View.read_writes_full wSlot0.view g _ _ L)).trans (w_copy m c k inb)
/-- … and as the second buffer holds it. -/
theorem w_read1 (c : Dev nD) (k : Fin 8) (inb : ∀ a, (![0, 256 * k.val] : Fin 2 → ℕ) a + S4096x256.size a ≤ S4096x2048.size a)
    (g : wSlot1.view.ty.Contents (Elt F)) (L : List (View.Piece (Elt F) S4096x256 .f32)) :
    wM.view.readAt (Elt F) (Rect.unit (s := S2x4096x256) ![1, 0, 0] S1x4096x256.size inb_S2x4096x256_S1x4096x256_1_0_0).toLoadRect
        (wSlot1.view.writes (Elt F) g (⟨Rect.whole S4096x256, ((Memref.whole main_arg1).slice (Rect.unit (s := S4096x2048) ![0, 256 * k.val] S4096x256.size inb)
          (fun _ => rfl)).view.read (Elt F) (m ((c : Thread nD τ).loc main_arg1))⟩ :: L))
      = wc m c k :=
  (w_read 1 _ _ _ (View.read_writes_full wSlot1.view g _ _ L)).trans (w_copy m c k inb)

/-- The rounded `x`, as every chunk's product loads it. -/
theorem x_read (c : Dev nD) (f0 : (Memref.whole cc0_scratch0).view.ty.Contents (Elt F)) :
    (Memref.whole cc0_scratch1).view.readCov (Val := Elt F)
        [⟨Rect.unit (s := S1024x4096) ![0, 0] S1024x4096.size inb_S1024x4096_S1024x4096_0_0,
          k0_pay4 ((Memref.whole cc0_scratch0).view.readAt (Elt F)
            (Rect.unit (s := S1024x4096) ![0, 0] S1024x4096.size inb_S1024x4096_S1024x4096_0_0).toLoadRect
            ((Memref.whole cc0_scratch0).view.write (Elt F) f0 ((Memref.whole main_arg0).view.read (Elt F) (m ((c : Thread nD τ).loc main_arg0))) Finset.univ))⟩]
        (Rect.unit (s := S1024x4096) ![0, 0] S1024x4096.size inb_S1024x4096_S1024x4096_0_0).toLoadRect
      = xb m c := by
  refine (View.readCov_full (Memref.whole cc0_scratch1).view _ _ _ []).trans ?_
  unfold xb
  refine congrArg k0_pay4 ?_
  exact (View.readAt_full _ _ _).trans (View.read_write_univ _ _)

/-- A chunk as it is stored into the send buffer. -/
theorem as_sent {a b : FVec F S1024x256 .f32} (h : a = b) :
    shapeCast S1x1024x256 (truncf .bf16 a bitsLt_bf16_f32) shapeCasts_S1024x256_S1x1024x256
      = shapeCast S1x1024x256 (truncf .bf16 b bitsLt_bf16_f32) shapeCasts_S1024x256_S1x1024x256 := by rw [h]

/-- What a device starts with, … -/
def bodyPre (K : Dev nD × CellIx → ℕ) (c : Dev nD) (W : Waits sig Unit) : sProp 𝕄 :=
  iprop(records m K ∗ (levAts L lv : sProp 𝕄) ∗ owes (c : Thread nD τ) (O₀ c) W
    ∗ (semVal ((c : Thread nD τ), .dma xq) 0 ∗ semVal ((c : Thread nD τ), .dma wq0) 0 ∗ semVal ((c : Thread nD τ), .dma wq1) 0)
    ∗ (wholePts (Memref.whole main_arg0) c (m ((c : Thread nD τ).loc main_arg0)) ∗ wholePts (Memref.whole main_arg1) c (m ((c : Thread nD τ).loc main_arg1))
      ∗ (∃ f, wholePts oM c f))
    ∗ ((∃ f, wholePts (Memref.whole cc0_scratch0) c f) ∗ (∃ f, wholePts (Memref.whole cc0_scratch1) c f) ∗ (∃ f, wPts0 c f) ∗ (∃ f, wPts1 c f))
    ∗ ((∃ f, sendPts c 0 f) ∗ (∃ f, sendPts c 1 f) ∗ (∃ f, sendPts c 2 f) ∗ (∃ f, sendPts c 3 f))
    ∗ ((∃ f, recvPts c 0 f) ∗ (∃ f, recvPts c 1 f) ∗ (∃ f, recvPts c 2 f) ∗ (∃ f, recvPts c 3 f))
    ∗ (atPos ER (barCell c) 0 ∅ 0 ∗ cred (tallyAt (barCell c) () 3))
    ∗ (atPos ER (sendCell c 0) 0 ∅ 0 ∗ atPos ER (sendCell c 1) 0 ∅ 0 ∗ atPos ER (sendCell c 2) 0 ∅ 0 ∗ atPos ER (sendCell c 3) 0 ∅ 0)
    ∗ (atPos ER (recvCell c 0) 0 ∅ 0 ∗ atPos ER (recvCell c 1) 0 ∅ 0 ∗ atPos ER (recvCell c 2) 0 ∅ 0 ∗ atPos ER (recvCell c 3) 0 ∅ 0)
    ∗ (Other c 0 (dutyTok ER (barCell 0) 0 c) ∗ Other c 1 (dutyTok ER (barCell 1) 0 c) ∗ Other c 2 (dutyTok ER (barCell 2) 0 c) ∗ Other c 3 (dutyTok ER (barCell 3) 0 c))
    ∗ (Other c 0 iprop(dutyTok ER (sendCell c 0) 0 0 ∗ dutyTok ER (recvCell 0 c) 0 0) ∗ Other c 1 iprop(dutyTok ER (sendCell c 1) 0 0 ∗ dutyTok ER (recvCell 1 c) 0 0)
      ∗ Other c 2 iprop(dutyTok ER (sendCell c 2) 0 0 ∗ dutyTok ER (recvCell 2 c) 0 0) ∗ Other c 3 iprop(dutyTok ER (sendCell c 3) 0 0 ∗ dutyTok ER (recvCell 3 c) 0 0))
    ∗ (Other c 0 (cred (tallyAt (recvCell c 0) () N)) ∗ Other c 1 (cred (tallyAt (recvCell c 1) () N)) ∗ Other c 2 (cred (tallyAt (recvCell c 2) () N))
      ∗ Other c 3 (cred (tallyAt (recvCell c 3) () N))))

/-- … and what it ends with. -/
def bodyPost (c : Dev nD) : sProp 𝕄 :=
  iprop((∃ W, owes (c : Thread nD τ) 0 W)
    ∗ (semVal ((c : Thread nD τ), .dma xq) 0 ∗ semVal ((c : Thread nD τ), .dma wq0) 0 ∗ semVal ((c : Thread nD τ), .dma wq1) 0)
    ∗ (wholePts (Memref.whole main_arg0) c (m ((c : Thread nD τ).loc main_arg0)) ∗ wholePts (Memref.whole main_arg1) c (m ((c : Thread nD τ).loc main_arg1))
      ∗ OutSt m c (fun _ => True))
    ∗ ((∃ f, wholePts (Memref.whole cc0_scratch0) c f) ∗ (∃ f, wholePts (Memref.whole cc0_scratch1) c f) ∗ (∃ f, wPts0 c f) ∗ (∃ f, wPts1 c f))
    ∗ ((∃ f, sendPts c 0 f) ∗ (∃ f, sendPts c 1 f) ∗ (∃ f, sendPts c 2 f) ∗ (∃ f, sendPts c 3 f))
    ∗ ((∃ f, recvPts c 0 f) ∗ (∃ f, recvPts c 1 f) ∗ (∃ f, recvPts c 2 f) ∗ (∃ f, recvPts c 3 f))
    ∗ semVal (barCell c) 0
    ∗ (semVal (sendCell c 0) 0 ∗ semVal (sendCell c 1) 0 ∗ semVal (sendCell c 2) 0 ∗ semVal (sendCell c 3) 0)
    ∗ (semVal (recvCell c 0) 0 ∗ semVal (recvCell c 1) 0 ∗ semVal (recvCell c 2) 0 ∗ semVal (recvCell c 3) 0))

/-- The barrier's wait hands over one payload from each other device. -/
theorem other_all (c : Dev nD) (Φ : Dev nD → sProp 𝕄) :
    bigSep (Finset.univ.erase c) Φ ⊢ iprop(Other c 0 (Φ 0) ∗ Other c 1 (Φ 1) ∗ Other c 2 (Φ 2) ∗ Other c 3 (Φ 3)) := by
  have h : bigSep (Finset.univ.erase c) Φ ⊢ bigSep Finset.univ fun j : Dev nD => Other c j (Φ j) := by
    conv_rhs => rw [← Finset.insert_erase (Finset.mem_univ c), bigSep_insert (Finset.notMem_erase c _)]
    rw [bigSep_congr (Ψ := fun j : Dev nD => Other c j (Φ j)) fun j hj => (Other_ne (Finset.ne_of_mem_erase hj) _).symm]
    show _ ⊢ iprop(Other c c (Φ c) ∗ _)
    rw [Other_self]
    iintro H
    isplitr; · iempintro
    iexact H
  rw [bigSep_eq_bigSepL_of_eq (S := (Finset.univ : Finset (Dev nD))) [0, 1, 2, 3] (by decide) (by decide)] at h
  exact h

theorem SendSt_intro (c j : Dev nD) (f : Buf (Elt F) (sM.view.loc (c : Thread nD τ))) : sendPts c j f ⊢ SendSt m c j 0 := by
  unfold SendSt
  iintro H
  iexists f
  isplitr
  · ipureintro; intro _ i hi; exact absurd hi (Nat.not_lt_zero _)
  · iexact H
theorem OutSt_intro (c : Dev nD) (f : Buf (Elt F) (oM.view.loc (c : Thread nD τ))) : wholePts oM c f ⊢ OutSt m c (Own c 0) := by
  unfold OutSt
  iintro H
  iexists f
  isplitr
  · ipureintro; intro i hi; exact absurd hi.2 (by omega)
  · iexact H

theorem OutSt_mono (c : Dev nD) {S T : S4096x512.Idx → Prop} (h : ∀ i, T i → S i) : OutSt m c S ⊢ OutSt m c T := by
  unfold OutSt
  iintro ⟨%f, %hf, H⟩
  iexists f
  isplitr
  · ipureintro; exact fun i hi => hf i (h i hi)
  · iexact H
theorem own_got (c : Dev nD) (i : S4096x512.Idx) (hi : Got c 0 i) : Own c 8 i := by
  have h1 : (i 1).val < 512 := (i 1).isLt
  have h2 : c.val < 4 := c.isLt
  rcases hi with hi | hi
  · exact ⟨hi, by omega⟩
  · exact absurd hi (Nat.not_lt_zero _)
theorem got_all (c : Dev nD) (i : S4096x512.Idx) : Got c 4 i := .inr (by have h0 : (i 0).val < 4096 := (i 0).isLt; omega)

theorem owes_zero_add (c : Dev nD) (O : CellTallies nD τ sig Unit) (W : Waits sig Unit) :
    (owes (c : Thread nD τ) O W : sProp 𝕄) ⊢ owes (c : Thread nD τ) (0 + O) W := by rw [zero_add]
theorem owes_exists (c : Dev nD) (W : Waits sig Unit) :
    (owes (c : Thread nD τ) 0 W : sProp 𝕄) ⊢ iprop(∃ W, owes (c : Thread nD τ) 0 W) := by iintro H; iexists W; iexact H

/-- The slot and the semaphore of the peer that a transfer names, at the offsets the kernel computes. -/
theorem slot_eq (c : Dev nD) {off : Fin 3 → ℕ} (h : off = ![c.val, 0, 0]) (inb : ∀ a, off a + S1x1024x512.size a ≤ S4x1024x512.size a)
    (hu : ∀ a, (Rect.unit (s := S4x1024x512) off S1x1024x512.size inb).stride a = 1) :
    (rM.slice (Rect.unit (s := S4x1024x512) off S1x1024x512.size inb) hu).squeeze S1024x512 squeezes_S1x1024x512_S1024x512 = slotOf rM c := by
  subst h; rfl
theorem sem_eq (c : Dev nD) {off : Fin 1 → ℕ} (h : off = ![c.val]) (inb : ∀ a, off a + S1.size a ≤ S4.size a) :
    ((cc0_scratch8.slice (Rect.unit (s := S4) off S1.size inb)).squeeze S_ squeezes_S1_S_).sem = semOf cc0_scratch8 c := by
  subst h; rfl

theorem sslot_credit (j : Dev nD) : (slotOf sM j).view.dmaCredit = N := by unfold N; revert j; decide +kernel

/-! ## When each statement runs -/

theorem cond1 : ∀ c : Dev nD, k0_cond1 c = 1#1 ↔ (0 : Dev nD) ≠ c := by decide +kernel
theorem cond2 : ∀ c : Dev nD, k0_cond2 c = 1#1 ↔ (1 : Dev nD) ≠ c := by decide +kernel
theorem cond3 : ∀ c : Dev nD, k0_cond3 c = 1#1 ↔ (2 : Dev nD) ≠ c := by decide +kernel
theorem cond4 : ∀ c : Dev nD, k0_cond4 c = 1#1 ↔ (3 : Dev nD) ≠ c := by decide +kernel
theorem cond9 : ∀ c : Dev nD, k0_cond9 c = 1#1 ↔ (0 : Dev nD) ≠ c := by decide +kernel
theorem cond14 : ∀ c : Dev nD, k0_cond14 c = 1#1 ↔ (1 : Dev nD) ≠ c := by decide +kernel
theorem cond19 : ∀ c : Dev nD, k0_cond19 c = 1#1 ↔ (2 : Dev nD) ≠ c := by decide +kernel
theorem cond24 : ∀ c : Dev nD, k0_cond24 c = 1#1 ↔ (3 : Dev nD) ≠ c := by decide +kernel
theorem cond5 : ∀ c : Dev nD, k0_cond5 c = 1#1 ↔ (0 : Dev nD) = c := by decide +kernel
theorem cond7 : ∀ c : Dev nD, k0_cond7 c = 1#1 ↔ (0 : Dev nD) = c := by decide +kernel
theorem cond10 : ∀ c : Dev nD, k0_cond10 c = 1#1 ↔ (1 : Dev nD) = c := by decide +kernel
theorem cond12 : ∀ c : Dev nD, k0_cond12 c = 1#1 ↔ (1 : Dev nD) = c := by decide +kernel
theorem cond15 : ∀ c : Dev nD, k0_cond15 c = 1#1 ↔ (2 : Dev nD) = c := by decide +kernel
theorem cond17 : ∀ c : Dev nD, k0_cond17 c = 1#1 ↔ (2 : Dev nD) = c := by decide +kernel
theorem cond20 : ∀ c : Dev nD, k0_cond20 c = 1#1 ↔ (3 : Dev nD) = c := by decide +kernel
theorem cond22 : ∀ c : Dev nD, k0_cond22 c = 1#1 ↔ (3 : Dev nD) = c := by decide +kernel
/-- A device's place on the mesh, as the kernel computes it. -/
abbrev place (c : Dev nD) : BitVec 32 := Scalar.remsi (Scalar.divsi (Dev.word c) 1#32) 4#32
theorem cond_ne0 : ∀ c : Dev nD, Scalar.cmpi .ne (Scalar.extui (Scalar.cmpi .ne (place c) 0#32)) 0#32 = 1#1 ↔ (0 : Dev nD) ≠ c := by decide +kernel
theorem cond_ne1 : ∀ c : Dev nD, Scalar.cmpi .ne (Scalar.extui (Scalar.cmpi .ne (place c) 1#32)) 0#32 = 1#1 ↔ (1 : Dev nD) ≠ c := by decide +kernel
theorem cond_ne2 : ∀ c : Dev nD, Scalar.cmpi .ne (Scalar.extui (Scalar.cmpi .ne (place c) 2#32)) 0#32 = 1#1 ↔ (2 : Dev nD) ≠ c := by decide +kernel
theorem cond_ne3 : ∀ c : Dev nD, Scalar.cmpi .ne (Scalar.extui (Scalar.cmpi .ne (place c) 3#32)) 0#32 = 1#1 ↔ (3 : Dev nD) ≠ c := by decide +kernel
theorem dev1 (h : k0_dev1 < nD) : (⟨k0_dev1, h⟩ : Dev nD) = 0 := by revert h; decide +kernel
theorem dev2 (h : k0_dev2 < nD) : (⟨k0_dev2, h⟩ : Dev nD) = 1 := by revert h; decide +kernel
theorem dev3 (h : k0_dev3 < nD) : (⟨k0_dev3, h⟩ : Dev nD) = 2 := by revert h; decide +kernel
theorem dev4 (h : k0_dev4 < nD) : (⟨k0_dev4, h⟩ : Dev nD) = 3 := by revert h; decide +kernel
theorem dev5 (h : k0_dev5 < nD) : (⟨k0_dev5, h⟩ : Dev nD) = 0 := by revert h; decide +kernel
theorem dev6 (h : k0_dev6 < nD) : (⟨k0_dev6, h⟩ : Dev nD) = 1 := by revert h; decide +kernel
theorem dev7 (h : k0_dev7 < nD) : (⟨k0_dev7, h⟩ : Dev nD) = 2 := by revert h; decide +kernel
theorem dev8 (h : k0_dev8 < nD) : (⟨k0_dev8, h⟩ : Dev nD) = 3 := by revert h; decide +kernel

set_option maxRecDepth 16384 in
set_option maxHeartbeats 4000000 in
theorem body (K : Dev nD × CellIx → ℕ) (c : Dev nD) (W : Waits sig Unit) (R : sProp 𝕄) :
    iprop(bodyPre m K c W ∗ R)
      ⊢ wp frame (wpE (defs₀ (F := F)) 𝒱₀ (c : Thread nD τ) none) Set.univ (cc0_body (F := F) (Memref.whole main_arg0) (Memref.isWhole_whole _) (Memref.whole main_arg1) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
          (fun _ => iprop(bodyPost m c ∗ R)) := by
  have hmx := fun O (hO : DebtAny O) => mayWait_low (F := F) c xq (by decide +kernel) O hO
  have hmw0 := fun O (hO : DebtAny O) => mayWait_low (F := F) c wq0 (by decide +kernel) O hO
  have hmw1 := fun O (hO : DebtAny O) => mayWait_low (F := F) c wq1 (by decide +kernel) O hO
  have hd4 : DebtAny (owRest c) := (owRest_debt c).any
  have hd3 : DebtAny (owRecv c 3 + owRecv c 2 + owRecv c 1) := (((owRecv_debt c 3).add (owRecv_debt c 2)).add (owRecv_debt c 1)).any
  have hd2 : DebtAny (owRecv c 3 + owRecv c 2) := ((owRecv_debt c 3).add (owRecv_debt c 2)).any
  have hd1 : DebtAny (owRecv c 3) := (owRecv_debt c 3).any
  rw [cc0_body_eq_skeleton]; unfold cc0_body_skel
  rw [k0_part1_eq_skeleton, k0_part2_eq_skeleton, k0_part3_eq_skeleton, k0_part4_eq_skeleton, k0_part5_eq_skeleton, k0_part6_eq_skeleton, k0_part7_eq_skeleton, k0_part8_eq_skeleton]
  unfold bodyPre O₀ owRest
  iintro ⟨⟨#HK, #Hlev, HO, ⟨Hx, Hw0, Hw1⟩, ⟨HX, HW, ⟨%o, Hout⟩⟩, ⟨⟨%f0, Hf0⟩, ⟨%f1, Hf1⟩, ⟨%f2, Hf2⟩, ⟨%f3, Hf3⟩⟩, ⟨⟨%s0, Hs0⟩, ⟨%s1, Hs1⟩, ⟨%s2, Hs2⟩, ⟨%s3, Hs3⟩⟩,
    ⟨Hr0, Hr1, Hr2, Hr3⟩, ⟨Hba, Hbc⟩, ⟨Hsa0, Hsa1, Hsa2, Hsa3⟩, ⟨Hra0, Hra1, Hra2, Hra3⟩, ⟨Hbt0, Hbt1, Hbt2, Hbt3⟩, ⟨Hst0, Hst1, Hst2, Hst3⟩, ⟨Hrc0, Hrc1, Hrc2, Hrc3⟩⟩, HR⟩
  ihave Hout := (OutSt_intro m c o) $$ Hout
  ihave Hs0 := (SendSt_intro m c 0 s0) $$ Hs0
  ihave Hs1 := (SendSt_intro m c 1 s1) $$ Hs1
  ihave Hs2 := (SendSt_intro m c 2 s2) $$ Hs2
  ihave Hs3 := (SendSt_intro m c 3 s3) $$ Hs3
  sl_exec
  iapply (guard_signal m (c := c) (j := 0) (cond1 c) (fun _ => dev1 _) K _ W) $$ [HO Hbt0 Hr0]
  · isplitr; · iexact HK
    isplitl [HO]; · iexact HO
    isplitl [Hbt0]; · iexact Hbt0
    iexact Hr0
  iintro ⟨HO, Hr0⟩
  beta_reduce
  iapply (guard_signal m (c := c) (j := 1) (cond2 c) (fun _ => dev2 _) K _ W) $$ [HO Hbt1 Hr1]
  · isplitr; · iexact HK
    isplitl [HO]; · iexact HO
    isplitl [Hbt1]; · iexact Hbt1
    iexact Hr1
  iintro ⟨HO, Hr1⟩
  beta_reduce
  iapply (guard_signal m (c := c) (j := 2) (cond3 c) (fun _ => dev3 _) K _ W) $$ [HO Hbt2 Hr2]
  · isplitr; · iexact HK
    isplitl [HO]; · iexact HO
    isplitl [Hbt2]; · iexact Hbt2
    iexact Hr2
  iintro ⟨HO, Hr2⟩
  beta_reduce
  iapply (guard_signal m (c := c) (j := 3) (cond4 c) (fun _ => dev4 _) K _ W) $$ [HO Hbt3 Hr3]
  · isplitr; · iexact HK
    isplitl [HO]; · iexact HO
    isplitl [Hbt3]; · iexact Hbt3
    iexact Hr3
  iintro ⟨HO, Hr3⟩
  beta_reduce
  iapply (guard_barrier m (c := c) K _ (owRest_debt c) W) $$ [HO Hba Hbc]
  · isplitr; · iexact HK
    isplitr; · iexact Hlev
    isplitl [Hbc]; · iexact Hbc
    isplitl [HO]; · iexact HO
    iexact Hba
  iintro ⟨HO, Hba, Hp⟩
  icases (other_all c _) $$ Hp with ⟨Hp0, Hp1, Hp2, Hp3⟩
  sl_exec
  -- chunk 0
  iapply (guard_own m (c := c) (j := 0) (cond5 c) 0 0 rfl (k0_off1_eq c)) $$ [Hout]
  · isplitr; · ipureintro; exact congrArg₂ (k0_pay5 (F := F)) (w_read0 m c 0 _ _ _) (x_read m c _)
    iexact Hout
  iintro Hout
  sl_exec
  iapply (guard_other m (c := c) (j := 0) (cond_ne0 c) 0 0 rfl rfl) $$ [Hs0]
  · isplitr; · ipureintro; exact as_sent (congrArg₂ (k0_pay5 (F := F)) (w_read0 m c 0 _ _ _) (x_read m c _))
    iexact Hs0
  iintro Hs0
  sl_exec
  -- chunk 1
  iapply (guard_own m (c := c) (j := 0) (cond7 c) 1 1 rfl (k0_off2_eq c)) $$ [Hout]
  · isplitr; · ipureintro; exact congrArg₂ (k0_pay5 (F := F)) (w_read1 m c 1 _ _ _) (x_read m c _)
    iexact Hout
  iintro Hout
  sl_exec
  iapply (guard_other m (c := c) (j := 0) (cond_ne0 c) 1 1 rfl rfl) $$ [Hs0]
  · isplitr; · ipureintro; exact as_sent (congrArg₂ (k0_pay5 (F := F)) (w_read1 m c 1 _ _ _) (x_read m c _))
    iexact Hs0
  iintro Hs0
  sl_exec
  iapply (guard_send m (c := c) (j := 0) (cond9 c) (fun _ => dev5 _) K (owRecv c 3 + owRecv c 2 + owRecv c 1) _ rfl (fun _ => slot_eq c (k0_off4_eq c) _ _) rfl
      (fun _ => sem_eq c (k0_off3_eq c) _)) $$ [HO Hs0 Hp0 Hst0]
  · isplitr; · iexact HK
    isplitl [HO]; · iexact HO
    isplitl [Hs0]; · iexact Hs0
    isplitl [Hp0]; · iexact Hp0
    iexact Hst0
  iintro ⟨HO, Hs0⟩
  sl_exec
  -- chunk 2
  iapply (guard_own m (c := c) (j := 1) (cond10 c) 0 2 rfl (k0_off5_eq c)) $$ [Hout]
  · isplitr; · ipureintro; exact congrArg₂ (k0_pay5 (F := F)) (w_read0 m c 2 _ _ _) (x_read m c _)
    iexact Hout
  iintro Hout
  sl_exec
  iapply (guard_other m (c := c) (j := 1) (cond_ne1 c) 0 2 rfl rfl) $$ [Hs1]
  · isplitr; · ipureintro; exact as_sent (congrArg₂ (k0_pay5 (F := F)) (w_read0 m c 2 _ _ _) (x_read m c _))
    iexact Hs1
  iintro Hs1
  sl_exec
  -- chunk 3
  iapply (guard_own m (c := c) (j := 1) (cond12 c) 1 3 rfl (k0_off6_eq c)) $$ [Hout]
  · isplitr; · ipureintro; exact congrArg₂ (k0_pay5 (F := F)) (w_read1 m c 3 _ _ _) (x_read m c _)
    iexact Hout
  iintro Hout
  sl_exec
  iapply (guard_other m (c := c) (j := 1) (cond_ne1 c) 1 3 rfl rfl) $$ [Hs1]
  · isplitr; · ipureintro; exact as_sent (congrArg₂ (k0_pay5 (F := F)) (w_read1 m c 3 _ _ _) (x_read m c _))
    iexact Hs1
  iintro Hs1
  sl_exec
  iapply (guard_send m (c := c) (j := 1) (cond14 c) (fun _ => dev6 _) K (owRecv c 3 + owRecv c 2) _ rfl (fun _ => slot_eq c (k0_off8_eq c) _ _) rfl
      (fun _ => sem_eq c (k0_off7_eq c) _)) $$ [HO Hs1 Hp1 Hst1]
  · isplitr; · iexact HK
    isplitl [HO]; · iexact HO
    isplitl [Hs1]; · iexact Hs1
    isplitl [Hp1]; · iexact Hp1
    iexact Hst1
  iintro ⟨HO, Hs1⟩
  sl_exec
  -- chunk 4
  iapply (guard_own m (c := c) (j := 2) (cond15 c) 0 4 rfl (k0_off9_eq c)) $$ [Hout]
  · isplitr; · ipureintro; exact congrArg₂ (k0_pay5 (F := F)) (w_read0 m c 4 _ _ _) (x_read m c _)
    iexact Hout
  iintro Hout
  sl_exec
  iapply (guard_other m (c := c) (j := 2) (cond_ne2 c) 0 4 rfl rfl) $$ [Hs2]
  · isplitr; · ipureintro; exact as_sent (congrArg₂ (k0_pay5 (F := F)) (w_read0 m c 4 _ _ _) (x_read m c _))
    iexact Hs2
  iintro Hs2
  sl_exec
  -- chunk 5
  iapply (guard_own m (c := c) (j := 2) (cond17 c) 1 5 rfl (k0_off10_eq c)) $$ [Hout]
  · isplitr; · ipureintro; exact congrArg₂ (k0_pay5 (F := F)) (w_read1 m c 5 _ _ _) (x_read m c _)
    iexact Hout
  iintro Hout
  sl_exec
  iapply (guard_other m (c := c) (j := 2) (cond_ne2 c) 1 5 rfl rfl) $$ [Hs2]
  · isplitr; · ipureintro; exact as_sent (congrArg₂ (k0_pay5 (F := F)) (w_read1 m c 5 _ _ _) (x_read m c _))
    iexact Hs2
  iintro Hs2
  sl_exec
  iapply (guard_send m (c := c) (j := 2) (cond19 c) (fun _ => dev7 _) K (owRecv c 3) _ rfl (fun _ => slot_eq c (k0_off12_eq c) _ _) rfl
      (fun _ => sem_eq c (k0_off11_eq c) _)) $$ [HO Hs2 Hp2 Hst2]
  · isplitr; · iexact HK
    isplitl [HO]; · iexact HO
    isplitl [Hs2]; · iexact Hs2
    isplitl [Hp2]; · iexact Hp2
    iexact Hst2
  iintro ⟨HO, Hs2⟩
  sl_exec
  -- chunk 6
  iapply (guard_own m (c := c) (j := 3) (cond20 c) 0 6 rfl (k0_off13_eq c)) $$ [Hout]
  · isplitr; · ipureintro; exact congrArg₂ (k0_pay5 (F := F)) (w_read0 m c 6 _ _ _) (x_read m c _)
    iexact Hout
  iintro Hout
  sl_exec
  iapply (guard_other m (c := c) (j := 3) (cond_ne3 c) 0 6 rfl rfl) $$ [Hs3]
  · isplitr; · ipureintro; exact as_sent (congrArg₂ (k0_pay5 (F := F)) (w_read0 m c 6 _ _ _) (x_read m c _))
    iexact Hs3
  iintro Hs3
  sl_exec
  -- chunk 7
  iapply (guard_own m (c := c) (j := 3) (cond22 c) 1 7 rfl (k0_off14_eq c)) $$ [Hout]
  · isplitr; · ipureintro; exact congrArg₂ (k0_pay5 (F := F)) (w_read1 m c 7 _ _ _) (x_read m c _)
    iexact Hout
  iintro Hout
  sl_exec
  iapply (guard_other m (c := c) (j := 3) (cond_ne3 c) 1 7 rfl rfl) $$ [Hs3]
  · isplitr; · ipureintro; exact as_sent (congrArg₂ (k0_pay5 (F := F)) (w_read1 m c 7 _ _ _) (x_read m c _))
    iexact Hs3
  iintro Hs3
  sl_exec
  ihave HO := (owes_zero_add c (owRecv c 3) _) $$ HO
  iapply (guard_send m (c := c) (j := 3) (cond24 c) (fun _ => dev8 _) K 0 _ rfl (fun _ => slot_eq c (k0_off16_eq c) _ _) rfl
      (fun _ => sem_eq c (k0_off15_eq c) _)) $$ [HO Hs3 Hp3 Hst3]
  · isplitr; · iexact HK
    isplitl [HO]; · iexact HO
    isplitl [Hs3]; · iexact Hs3
    isplitl [Hp3]; · iexact Hp3
    iexact Hst3
  iintro ⟨HO, Hs3⟩
  sl_exec
  -- the blocks of the other devices
  ihave Hout := (OutSt_mono m c (S := Own c ((7 : Fin 8).val + 1)) (T := Got c 0) (fun i hi => own_got c i hi)) $$ Hout
  ihave HO := (owes_exists c _) $$ HO
  iapply (guard_recv m (c := c) (p := 0) (cond_ne0 c) K rfl rfl rfl rfl (fun _ => rfl)) $$ [HO Hra0 Hrc0 Hr0 Hout]
  · isplitr; · iexact HK
    isplitl [HO]; · iexact HO
    isplitl [Hra0]; · iexact Hra0
    isplitl [Hrc0]; · iexact Hrc0
    isplitl [Hr0]; · iexact Hr0
    iexact Hout
  iintro ⟨HO, Hra0, Hr0, Hout⟩
  sl_exec
  iapply (guard_recv m (c := c) (p := 1) (cond_ne1 c) K rfl rfl rfl rfl (fun _ => rfl)) $$ [HO Hra1 Hrc1 Hr1 Hout]
  · isplitr; · iexact HK
    isplitl [HO]; · iexact HO
    isplitl [Hra1]; · iexact Hra1
    isplitl [Hrc1]; · iexact Hrc1
    isplitl [Hr1]; · iexact Hr1
    iexact Hout
  iintro ⟨HO, Hra1, Hr1, Hout⟩
  sl_exec
  iapply (guard_recv m (c := c) (p := 2) (cond_ne2 c) K rfl rfl rfl rfl (fun _ => rfl)) $$ [HO Hra2 Hrc2 Hr2 Hout]
  · isplitr; · iexact HK
    isplitl [HO]; · iexact HO
    isplitl [Hra2]; · iexact Hra2
    isplitl [Hrc2]; · iexact Hrc2
    isplitl [Hr2]; · iexact Hr2
    iexact Hout
  iintro ⟨HO, Hra2, Hr2, Hout⟩
  sl_exec
  iapply (guard_recv m (c := c) (p := 3) (cond_ne3 c) K rfl rfl rfl rfl (fun _ => rfl)) $$ [HO Hra3 Hrc3 Hr3 Hout]
  · isplitr; · iexact HK
    isplitl [HO]; · iexact HO
    isplitl [Hra3]; · iexact Hra3
    isplitl [Hrc3]; · iexact Hrc3
    isplitl [Hr3]; · iexact Hr3
    iexact Hout
  iintro ⟨HO, Hra3, Hr3, Hout⟩
  sl_exec
  -- the departures
  iapply (guard_sent m (c := c) (j := 0) (cond_ne0 c) K rfl (fun _ => sslot_credit 0)) $$ [HO Hsa0 Hs0]
  · isplitr; · iexact HK
    isplitl [HO]; · iexact HO
    isplitl [Hsa0]; · iexact Hsa0
    iexact Hs0
  iintro ⟨HO, Hsa0, Hs0⟩
  sl_exec
  iapply (guard_sent m (c := c) (j := 1) (cond_ne1 c) K rfl (fun _ => sslot_credit 1)) $$ [HO Hsa1 Hs1]
  · isplitr; · iexact HK
    isplitl [HO]; · iexact HO
    isplitl [Hsa1]; · iexact Hsa1
    iexact Hs1
  iintro ⟨HO, Hsa1, Hs1⟩
  sl_exec
  iapply (guard_sent m (c := c) (j := 2) (cond_ne2 c) K rfl (fun _ => sslot_credit 2)) $$ [HO Hsa2 Hs2]
  · isplitr; · iexact HK
    isplitl [HO]; · iexact HO
    isplitl [Hsa2]; · iexact Hsa2
    iexact Hs2
  iintro ⟨HO, Hsa2, Hs2⟩
  sl_exec
  iapply (guard_sent m (c := c) (j := 3) (cond_ne3 c) K rfl (fun _ => sslot_credit 3)) $$ [HO Hsa3 Hs3]
  · isplitr; · iexact HK
    isplitl [HO]; · iexact HO
    isplitl [Hsa3]; · iexact Hsa3
    iexact Hs3
  iintro ⟨HO, Hsa3, Hs3⟩
  sl_exec
  -- the barrier cell closes
  imod (close_cell m (barCell c) 1 (K (c, none)) (fun r hr => duties_later m (barCell c) r hr)) $$ [Hba] with Hba
  · isplitr; · iapply (records_inv m K (c, none)); iexact HK
    iexact Hba
  rw [wp_ret]
  imodintro
  unfold bodyPost
  isplitr [HR]
  rotate_left
  · iexact HR
  isplitl [HO]; · iexact HO
  isplitl [Hx Hw0 Hw1]
  · isplitl [Hx]; · iexact Hx
    isplitl [Hw0]; · iexact Hw0
    iexact Hw1
  isplitl [HX HW Hout]
  · isplitl [HX]; · iexact HX
    isplitl [HW]; · iexact HW
    iapply (OutSt_mono m c (S := Got c ((3 : Fin 4).val + 1)) (fun i _ => got_all c i)); iexact Hout
  isplitl [Hf0 Hf1 Hf2 Hf3]
  · isplitl [Hf0]; · iexists _; iexact Hf0
    isplitl [Hf1]; · iexists _; iexact Hf1
    isplitl [Hf2]; · iexists _; iexact Hf2
    iexists _; iexact Hf3
  isplitl [Hs0 Hs1 Hs2 Hs3]
  · isplitl [Hs0]; · iexact Hs0
    isplitl [Hs1]; · iexact Hs1
    isplitl [Hs2]; · iexact Hs2
    iexact Hs3
  isplitl [Hr0 Hr1 Hr2 Hr3]
  · isplitl [Hr0]; · iexact Hr0
    isplitl [Hr1]; · iexact Hr1
    isplitl [Hr2]; · iexact Hr2
    iexact Hr3
  isplitl [Hba]; · iexact Hba
  isplitl [Hsa0 Hsa1 Hsa2 Hsa3]
  · isplitl [Hsa0]; · iexact Hsa0
    isplitl [Hsa1]; · iexact Hsa1
    isplitl [Hsa2]; · iexact Hsa2
    iexact Hsa3
  · isplitl [Hra0]; · iexact Hra0
    isplitl [Hra1]; · iexact Hra1
    isplitl [Hra2]; · iexact Hra2
    iexact Hra3

end Cert.KernelIdealProof

end
-- ==== Proof.KernelIdealLaunch.lean ====
/-
  The launch: the protocol's ghost state made and dealt to the devices, and the run of @main.
-/
module

public import proofs.«01_k».proof.Proof.KernelIdealBody
public import proofs.«01_k».proof.Proof.Gen.KernelIdeal.Frame
public import Idealize.ShloMosaic.Lib.Pipeline.CollectiveSegs
public import Idealize.ShloMosaic.Lib.Ring.FamCut

@[expose] public section

noncomputable section

namespace Cert.KernelIdealProof

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families over the devices -/

theorem four (Φ : Dev nD → sProp 𝕄) : bigSep Finset.univ Φ = iprop(Φ 0 ∗ Φ 1 ∗ Φ 2 ∗ Φ 3) :=
  bigSep_eq_bigSepL_of_eq (S := (Finset.univ : Finset (Dev nD))) [0, 1, 2, 3] (by decide) (by decide) Φ

/-- A family over all devices serves where one over the other devices is asked for. -/
theorem others (c : Dev nD) (Φ : Dev nD → sProp 𝕄) : bigSep Finset.univ Φ ⊢ bigSep Finset.univ fun j => Other c j (Φ j) :=
  bigSep_mono fun j _ => by
    unfold Other
    split
    · exact fun _ _ => trivial
    · exact fun _ h => h

/-! ## The buffers cut into slots and joined again -/

theorem slots_disjoint (M : Memref sig .tc .vmem S4x1024x512 .bf16) (j k : Dev nD) (h : j ≠ k) : Disjoint (slotSet M j) (slotSet M k) := by
  have hv : j.val ≠ k.val := fun e => h (Fin.ext e)
  have hd : Disjoint (slotBox j).set (slotBox k).set := Rect.unit_disjoint (0 : Fin 3) (by
    show j.val + 1 ≤ k.val ∨ k.val + 1 ≤ j.val
    omega)
  exact (Finset.disjoint_map M.view.emb).mpr hd

/-- The elements of the two buffers of `w`. -/
def wSet : Fin 2 → Finset wM.view.ty.Idx
  | 0 => wSlot0.view.set
  | 1 => wSlot1.view.set
theorem wSlots_disjoint : Disjoint wSlot0.view.set wSlot1.view.set := by
  have hd := Rect.unit_disjoint (s := S2x4096x256) (inb := inb_S2x4096x256_S1x4096x256_0_0_0) (inb' := inb_S2x4096x256_S1x4096x256_1_0_0) (0 : Fin 3)
    (Or.inl (by show 0 + 1 ≤ 1; omega))
  have h0 : wSlot0.view.set = wM.view.setOn (Rect.unit (s := S2x4096x256) ![0, 0, 0] S1x4096x256.size inb_S2x4096x256_S1x4096x256_0_0_0).set :=
    (View.set_reshape _ _).trans (View.set_slice wM.view _)
  have h1 : wSlot1.view.set = wM.view.setOn (Rect.unit (s := S2x4096x256) ![1, 0, 0] S1x4096x256.size inb_S2x4096x256_S1x4096x256_1_0_0).set :=
    (View.set_reshape _ _).trans (View.set_slice wM.view _)
  rw [h0, h1]
  exact (Finset.disjoint_map wM.view.emb).mpr hd
theorem wSet_disjoint (a b : Fin 2) (h : a ≠ b) : Disjoint (wSet a) (wSet b) := by
  fin_cases a <;> fin_cases b
  · exact absurd rfl h
  · exact wSlots_disjoint
  · exact wSlots_disjoint.symm
  · exact absurd rfl h

/-- What the slots leave of their buffers. -/
def rests (c : Dev nD) : sProp 𝕄 :=
  iprop((∃ f : Buf (Elt F) ((c : Thread nD τ).loc cc0_scratch2), (c : Thread nD τ).loc cc0_scratch2 ↦[Ring.restOf (ℓ := (c : Thread nD τ).loc cc0_scratch2) wSet]{fullShare} f)
    ∗ (∃ f : Buf (Elt F) ((c : Thread nD τ).loc cc0_scratch3), (c : Thread nD τ).loc cc0_scratch3 ↦[Ring.restOf (ℓ := (c : Thread nD τ).loc cc0_scratch3) (slotSet sM)]{fullShare} f)
    ∗ (∃ f : Buf (Elt F) ((c : Thread nD τ).loc cc0_scratch4), (c : Thread nD τ).loc cc0_scratch4 ↦[Ring.restOf (ℓ := (c : Thread nD τ).loc cc0_scratch4) (slotSet rM)]{fullShare} f))

/-- The three buffers, as slots. -/
def slots (c : Dev nD) : sProp 𝕄 :=
  iprop(((∃ f, wPts0 c f) ∗ (∃ f, wPts1 c f))
    ∗ ((∃ f, sendPts c 0 f) ∗ (∃ f, sendPts c 1 f) ∗ (∃ f, sendPts c 2 f) ∗ (∃ f, sendPts c 3 f))
    ∗ ((∃ f, recvPts (F := F) c 0 f) ∗ (∃ f, recvPts c 1 f) ∗ (∃ f, recvPts c 2 f) ∗ (∃ f, recvPts c 3 f)))
/-- The three buffers, whole. -/
def wholes (c : Dev nD) : sProp 𝕄 :=
  iprop((∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

theorem two (c : Dev nD) : (bigSep Finset.univ fun a : Fin 2 => iprop(∃ f : Buf (Elt F) ((c : Thread nD τ).loc cc0_scratch2), (c : Thread nD τ).loc cc0_scratch2 ↦[wSet a]{fullShare} f) : sProp 𝕄)
    = iprop((∃ f, wPts0 c f) ∗ (∃ f, wPts1 c f)) :=
  bigSep_univ_eq_bigSepL [(0 : Fin 2), 1] (by decide) (by decide) _

theorem wholes_cut (c : Dev nD) : wholes (F := F) c ⊢ iprop(slots c ∗ rests c) := by
  unfold wholes slots rests
  iintro ⟨H2, H3, H4⟩
  ihave H2 := (Ring.fam_split_ex (Ix := Unit) (Val := Elt F) (Name := ℕ) (U := UU) (Lvl := ℕ) (ℓ := (c : Thread nD τ).loc cc0_scratch2) wSet wSet_disjoint (q := fullShare)) $$ H2
  ihave H3 := (Ring.fam_split_ex (Ix := Unit) (Val := Elt F) (Name := ℕ) (U := UU) (Lvl := ℕ) (ℓ := (c : Thread nD τ).loc cc0_scratch3) (slotSet sM) (slots_disjoint sM) (q := fullShare)) $$ H3
  ihave H4 := (Ring.fam_split_ex (Ix := Unit) (Val := Elt F) (Name := ℕ) (U := UU) (Lvl := ℕ) (ℓ := (c : Thread nD τ).loc cc0_scratch4) (slotSet rM) (slots_disjoint rM) (q := fullShare)) $$ H4
  icases H2 with ⟨H2, R2⟩
  icases H3 with ⟨H3, R3⟩
  icases H4 with ⟨H4, R4⟩
  ihave H2 := (Entails.of_eq (two c)) $$ H2
  ihave H3 := (Entails.of_eq (four _)) $$ H3
  ihave H4 := (Entails.of_eq (four _)) $$ H4
  isplitl [H2 H3 H4]
  · isplitl [H2]; · iexact H2
    isplitl [H3]; · iexact H3
    iexact H4
  · isplitl [R2]; · iexact R2
    isplitl [R3]; · iexact R3
    iexact R4

theorem wholes_join (c : Dev nD) : iprop(slots (F := F) c ∗ rests c) ⊢ wholes c := by
  unfold wholes slots rests
  iintro ⟨⟨H2, H3, H4⟩, R2, R3, R4⟩
  ihave H2 := (Entails.of_eq (two c).symm) $$ H2
  ihave H3 := (Entails.of_eq (four fun j => iprop(∃ f, sendPts (F := F) c j f)).symm) $$ H3
  ihave H4 := (Entails.of_eq (four fun j => iprop(∃ f, recvPts (F := F) c j f)).symm) $$ H4
  isplitl [H2 R2]
  · iapply (Ring.fam_join (Ix := Unit) (Val := Elt F) (Name := ℕ) (U := UU) (Lvl := ℕ) (ℓ := (c : Thread nD τ).loc cc0_scratch2) wSet wSet_disjoint (q := fullShare) (fun _ => Classical.arbitrary _))
    isplitl [H2]; · iexact H2
    iexact R2
  isplitl [H3 R3]
  · iapply (Ring.fam_join (Ix := Unit) (Val := Elt F) (Name := ℕ) (U := UU) (Lvl := ℕ) (ℓ := (c : Thread nD τ).loc cc0_scratch3) (slotSet sM) (slots_disjoint sM) (q := fullShare) (fun _ => Classical.arbitrary _))
    isplitl [H3]; · iexact H3
    iexact R3
  · iapply (Ring.fam_join (Ix := Unit) (Val := Elt F) (Name := ℕ) (U := UU) (Lvl := ℕ) (ℓ := (c : Thread nD τ).loc cc0_scratch4) (slotSet rM) (slots_disjoint rM) (q := fullShare) (fun _ => Classical.arbitrary _))
    isplitl [H4]; · iexact H4
    iexact R4

/-! ## The pipeline's proof data -/

/-- The kernel's own semaphores: those of the copies inside a device, of the departures and of the arrivals. -/
abbrev osem : Fin 11 → SemLoc sig := fun
  | 0 => .dma xq | 1 => .dma wq0 | 2 => .dma wq1
  | 3 => .dma (semOf cc0_scratch7 0) | 4 => .dma (semOf cc0_scratch7 1) | 5 => .dma (semOf cc0_scratch7 2) | 6 => .dma (semOf cc0_scratch7 3)
  | 7 => .dma (semOf cc0_scratch8 0) | 8 => .dma (semOf cc0_scratch8 1) | 9 => .dma (semOf cc0_scratch8 2) | 10 => .dma (semOf cc0_scratch8 3)
theorem ownSemFacts : Pipeline.OwnSemFacts cfg0.spec osem := by decide

/-- The two arguments, as launched. -/
def argPts (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1)))
/-- The semaphores of the copies inside a device, at zero; -/
def localSems (c : Dev nD) : sProp 𝕄 :=
  iprop(semVal ((c : Thread nD τ), .dma xq) 0 ∗ semVal ((c : Thread nD τ), .dma wq0) 0 ∗ semVal ((c : Thread nD τ), .dma wq1) 0)
/-- those of the departures; those of the arrivals. -/
def sendSems (c : Dev nD) : sProp 𝕄 :=
  iprop(semVal (sendCell c 0) 0 ∗ semVal (sendCell c 1) 0 ∗ semVal (sendCell c 2) 0 ∗ semVal (sendCell c 3) 0)
def recvSems (c : Dev nD) : sProp 𝕄 :=
  iprop(semVal (recvCell c 0) 0 ∗ semVal (recvCell c 1) 0 ∗ semVal (recvCell c 2) 0 ∗ semVal (recvCell c 3) 0)

/-- A device's positions at its cells, … -/
def poss (c : Dev nD) : sProp 𝕄 :=
  iprop(atPos ER (barCell c) 0 ∅ 0 ∗ (bigSep Finset.univ fun j : Dev nD => atPos ER (sendCell c j) 0 ∅ 0) ∗ (bigSep Finset.univ fun p : Dev nD => atPos ER (recvCell c p) 0 ∅ 0))
/-- … the tokens of the duties it pays, … -/
def payToks (c : Dev nD) : sProp 𝕄 :=
  iprop((bigSep Finset.univ fun j : Dev nD => dutyTok ER (barCell j) 0 c)
    ∗ (bigSep Finset.univ fun j : Dev nD => iprop(dutyTok ER (sendCell c j) 0 0 ∗ dutyTok ER (recvCell j c) 0 0)))
/-- … and the credit it waits with. -/
def creds (c : Dev nD) : sProp 𝕄 :=
  iprop(cred (tallyAt (barCell c) () 3) ∗ bigSep Finset.univ fun p : Dev nD => Other c p (cred (tallyAt (recvCell c p) () N)))

/-- What a device starts from. -/
def start (c : Dev nD) : sProp 𝕄 :=
  iprop((∃ K : Dev nD × CellIx → ℕ, records m K) ∗ (localSems c ∗ poss c ∗ payToks c) ∗ creds c ∗ (levAts L lv : sProp 𝕄) ∗ argPts m c)

/-- Before the body's point … -/
def Φ₀ (c : Dev nD) : sProp 𝕄 :=
  iprop(start m c ∗ (∃ f, wholePts (Memref.whole cc0_scratch0) c f) ∗ (∃ f, wholePts (Memref.whole cc0_scratch1) c f) ∗ wholes c)
/-- … and after it: every cell closed, the arguments unchanged. -/
def Φ₁ (c : Dev nD) : sProp 𝕄 :=
  iprop((semVal (barCell c) 0 ∗ argPts m c) ∗ (localSems c ∗ sendSems c ∗ recvSems c)
    ∗ (∃ f, wholePts (Memref.whole cc0_scratch0) c f) ∗ (∃ f, wholePts (Memref.whole cc0_scratch1) c f) ∗ wholes c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- The result's buffer at given contents. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem pre_of (K : Dev nD × CellIx → ℕ) (c : Dev nD) (W : Waits sig Unit) :
    iprop(records m K ∗ (localSems c ∗ poss c ∗ payToks c) ∗ creds c ∗ (levAts L lv : sProp 𝕄) ∗ argPts m c
        ∗ ((∃ f, wholePts (Memref.whole cc0_scratch0) c f) ∗ (∃ f, wholePts (Memref.whole cc0_scratch1) c f) ∗ slots c)
        ∗ owes (c : Thread nD τ) (O₀ c) W ∗ (∃ f, wholePts oM c f))
      ⊢ bodyPre m K c W := by
  unfold bodyPre localSems poss payToks creds argPts slots
  iintro ⟨HK, ⟨Hl, ⟨Hab, Has, Har⟩, ⟨Htb, Hts⟩⟩, ⟨Hcb, Hcr⟩, Hlev, ⟨HX, HW⟩, ⟨H0, H1, ⟨Hw0, Hw1⟩, Hs, Hr⟩, HO, Hout⟩
  ihave Has := (Entails.of_eq (four _)) $$ Has
  ihave Har := (Entails.of_eq (four _)) $$ Har
  ihave Htb := ((others c _).trans (Entails.of_eq (four _))) $$ Htb
  ihave Hts := ((others c _).trans (Entails.of_eq (four _))) $$ Hts
  ihave Hcr := (Entails.of_eq (four _)) $$ Hcr
  isplitl [HK]; · iexact HK
  isplitl [Hlev]; · iexact Hlev
  isplitl [HO]; · iexact HO
  isplitl [Hl]; · iexact Hl
  isplitl [HX HW Hout]
  · isplitl [HX]; · iexact HX
    isplitl [HW]; · iexact HW
    iexact Hout
  isplitl [H0 H1 Hw0 Hw1]
  · isplitl [H0]; · iexact H0
    isplitl [H1]; · iexact H1
    isplitl [Hw0]; · iexact Hw0
    iexact Hw1
  isplitl [Hs]; · iexact Hs
  isplitl [Hr]; · iexact Hr
  isplitl [Hab Hcb]
  · isplitl [Hab]; · iexact Hab
    iexact Hcb
  isplitl [Has]; · iexact Has
  isplitl [Har]; · iexact Har
  isplitl [Htb]; · iexact Htb
  isplitl [Hts]; · iexact Hts
  iexact Hcr

theorem of_post (c : Dev nD) :
    iprop(bodyPost m c ∗ rests c) ⊢ iprop(Φ₁ m c ∗ (∃ W, owes (c : Thread nD τ) 0 W) ∗ stg c (outAt m c)) := by
  unfold bodyPost Φ₁ localSems sendSems recvSems argPts OutSt
  iintro ⟨⟨HO, Hl, ⟨HX, HW, ⟨%f, %hf, Hout⟩⟩, ⟨H0, H1, Hw0, Hw1⟩, Hs, Hr, Hb, Hss, Hrs⟩, Hrest⟩
  isplitl [HX HW Hl H0 H1 Hw0 Hw1 Hs Hr Hb Hss Hrs Hrest]
  · isplitl [Hb HX HW]
    · isplitl [Hb]; · iexact Hb
      isplitl [HX]; · iexact HX
      iexact HW
    isplitl [Hl Hss Hrs]
    · isplitl [Hl]; · iexact Hl
      isplitl [Hss]; · iexact Hss
      iexact Hrs
    isplitl [H0]; · iexact H0
    isplitl [H1]; · iexact H1
    iapply (wholes_join c)
    isplitl [Hw0 Hw1 Hs Hr]
    · unfold slots
      isplitl [Hw0 Hw1]
      · isplitl [Hw0]; · iexact Hw0
        iexact Hw1
      isplitl [Hs]; · iexact Hs
      iexact Hr
    iexact Hrest
  isplitl [HO]; · iexact HO
  iexists f
  isplitr
  · ipureintro; exact funext fun i => hf i trivial
  · iexact Hout

def pointPre (c : Dev nD) : sProp 𝕄 :=
  iprop(Φ₀ m c ∗ (dats m 0 c).owesAt () t0_0.castSucc ∗ (∃ d, stg c ((dats m 0 c).before (0 : Fin 1) t0_0 d)))
def pointPost (c : Dev nD) : sProp 𝕄 :=
  iprop(Φ₁ m c ∗ (dats m 0 c).owesAt () t0_0.succ ∗ stg c (outAt m c))

theorem post_of (c : Dev nD) : iprop(bodyPost m c ∗ rests c) ⊢ pointPost m c := by
  unfold pointPost Dat.owesAt Pipeline.owesWithin
  rw [show (dats m 0 c).owed t0_0.succ = 0 from rfl]
  refine (of_post m c).trans ?_
  iintro ⟨H1, ⟨%W, HO⟩, Hs⟩
  isplitl [H1]; · iexact H1
  isplitl [HO]
  · iexists W
    isplitr; · ipureintro; exact fun _ _ => Or.inl trivial
    iexact HO
  iexact Hs

theorem point (c : Dev nD) :
    pointPre m c ⊢ wp frame (wpE (defs₀ (F := F)) 𝒱₀ (c : Thread nD τ) none) Set.univ (cc0_body (F := F) (Memref.whole main_arg0) (Memref.isWhole_whole _) (Memref.whole main_arg1) (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8)
        (fun _ => pointPost m c) := by
  unfold pointPre Φ₀ start Dat.owesAt Pipeline.owesWithin
  rw [show (dats m 0 c).owed t0_0.castSucc = O₀ c from rfl]
  iintro ⟨⟨⟨⟨%K, HK⟩, Hlin, Hcr, Hlev, Harg⟩, H0, H1, Hwh⟩, ⟨%W, -, HO⟩, ⟨%d, %f, -, Hout⟩⟩
  ihave Hwh := (wholes_cut c) $$ Hwh
  icases Hwh with ⟨Hsl, Hrest⟩
  ihave Hpre := (pre_of m K c W) $$ [HK Hlin Hcr Hlev Harg H0 H1 Hsl HO Hout]
  · isplitl [HK]; · iexact HK
    isplitl [Hlin]; · iexact Hlin
    isplitl [Hcr]; · iexact Hcr
    isplitl [Hlev]; · iexact Hlev
    isplitl [Harg]; · iexact Harg
    isplitl [H0 H1 Hsl]
    · isplitl [H0]; · iexact H0
      isplitl [H1]; · iexact H1
      iexact Hsl
    isplitl [HO]; · iexact HO
    iexists f; iexact Hout
  ihave Hwp := (body m K c W (rests c)) $$ [Hpre Hrest]
  · isplitl [Hpre]; · iexact Hpre
    iexact Hrest
  iapply (wp_mono frame (wpE (defs₀ (F := F)) 𝒱₀ (c : Thread nD τ) none) Set.univ fun _ => post_of m c)
  iexact Hwp

/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact point m c

/-! ## The protocol's ghost state at launch -/

theorem cells_list (Φ : CellIx → sProp 𝕄) : bigSep Finset.univ Φ
    = iprop(Φ none ∗ Φ (some (false, 0)) ∗ Φ (some (false, 1)) ∗ Φ (some (false, 2)) ∗ Φ (some (false, 3))
        ∗ Φ (some (true, 0)) ∗ Φ (some (true, 1)) ∗ Φ (some (true, 2)) ∗ Φ (some (true, 3))) :=
  bigSep_univ_eq_bigSepL [(none : CellIx), some (false, 0), some (false, 1), some (false, 2), some (false, 3),
    some (true, 0), some (true, 1), some (true, 2), some (true, 3)] (by decide) (by decide) Φ

/-- A family over a device's cells by kind. -/
theorem cells_deal (Φ : CellIx → sProp 𝕄) : bigSep Finset.univ Φ
    ⊢ iprop(Φ none ∗ (bigSep Finset.univ fun j : Dev nD => Φ (some (false, j))) ∗ (bigSep Finset.univ fun p : Dev nD => Φ (some (true, p)))) := by
  rw [cells_list, four, four]
  iintro ⟨H, A, B, C, D, A', B', C', D'⟩
  isplitl [H]; · iexact H
  isplitl [A B C D]
  · isplitl [A]; · iexact A
    isplitl [B]; · iexact B
    isplitl [C]; · iexact C
    iexact D
  · isplitl [A']; · iexact A'
    isplitl [B']; · iexact B'
    isplitl [C']; · iexact C'
    iexact D'

theorem kcell_injective : Function.Injective (kcell : Dev nD × CellIx → GSem nD τ sig) := by
  rintro ⟨c, k⟩ ⟨c', k'⟩ h
  have h1 : c = c' := by
    have := congrArg (fun g : GSem nD τ sig => g.1.1) h
    rcases k with _ | ⟨_ | _, j⟩ <;> rcases k' with _ | ⟨_ | _, j'⟩ <;> exact this
  subst h1
  have h2 := congrArg Prod.snd h
  have h3 : k = k' := by
    rcases k with _ | ⟨_ | _, j⟩ <;> rcases k' with _ | ⟨_ | _, j'⟩
    · rfl
    · exact absurd h2.symm (dma_ne_bar _)
    · exact absurd h2.symm (dma_ne_bar _)
    · exact absurd h2 (dma_ne_bar _)
    · rw [semSend_inj h2]
    · exact absurd h2 (semSend_ne_recv _ _)
    · exact absurd h2 (dma_ne_bar _)
    · exact absurd h2.symm (semSend_ne_recv _ _)
    · rw [semRecv_inj h2]
  rw [h3]
def meshCells : Finset (GSem nD τ sig) := Finset.univ.map ⟨kcell, kcell_injective⟩

/-- The tokens of a device's own cells: for each device `j` the duty `j` of its barrier, and the one duty of its departure
    to and of its arrival from `j`. -/
def tokOf : Dev nD × Dev nD × Fin 3 → GSem nD τ sig × ℕ × Dev nD
  | (c, j, 0) => (barCell c, 0, j)
  | (c, j, 1) => (sendCell c j, 0, 0)
  | (c, j, 2) => (recvCell c j, 0, 0)
theorem tokOf_injective : Function.Injective tokOf := by
  rintro ⟨c, j, k⟩ ⟨c', j', k'⟩ h
  have h1 : c = c' := by
    have := congrArg (fun x : GSem nD τ sig × ℕ × Dev nD => x.1.1.1) h
    fin_cases k <;> fin_cases k' <;> exact this
  subst h1
  have h2 := congrArg (fun x : GSem nD τ sig × ℕ × Dev nD => x.1.2) h
  have h3 := congrArg (fun x : GSem nD τ sig × ℕ × Dev nD => x.2.2) h
  fin_cases k <;> fin_cases k'
  · rw [show j = j' from h3]
  · exact absurd h2.symm (dma_ne_bar _)
  · exact absurd h2.symm (dma_ne_bar _)
  · exact absurd h2 (dma_ne_bar _)
  · rw [semSend_inj (j := j) (k := j') h2]
  · exact absurd h2 (semSend_ne_recv _ _)
  · exact absurd h2 (dma_ne_bar _)
  · exact absurd h2.symm (semSend_ne_recv _ _)
  · rw [semRecv_inj (j := j) (k := j') h2]
def meshToks : Finset (GSem nD τ sig × ℕ × Dev nD) := Finset.univ.map ⟨tokOf, tokOf_injective⟩

def u₀ : UU :=
  (initOf (Pipeline.cells cfgs cellOf_inj) (Pipeline.launchToks cfgs cellOf_inj), (initOf meshCells meshToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the duties of device `c`'s own cells. -/
def toks (c : Dev nD) : sProp 𝕄 :=
  bigSep Finset.univ fun j : Dev nD => iprop(dutyTok ER (barCell c) 0 j ∗ dutyTok ER (sendCell c j) 0 0 ∗ dutyTok ER (recvCell c j) 0 0)

/-- What the launch element deals device `c`. -/
def G (c : Dev nD) : sProp 𝕄 :=
  iprop((bigSep Finset.univ fun k : CellIx => roundState ER (Rd m) (kcell (c, k)) 0)
    ∗ (bigSep Finset.univ fun k : CellIx => iprop(atPos ER (kcell (c, k)) 0 ∅ 0 ∗ reached ER (kcell (c, k)) 0)) ∗ toks c)
/-- What the global step makes of it. -/
def G' (c : Dev nD) : sProp 𝕄 := iprop((∃ K : Dev nD × CellIx → ℕ, records m K) ∗ (localSems c ∗ poss c ∗ payToks c))

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CellIx => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    refine bigSep_congr fun c _ => ?_
    unfold toks; rw [bigSep_univ_prod]
    refine bigSep_congr fun j _ => ?_
    exact bigSep_univ_eq_bigSepL [(0 : Fin 3), 1, 2] (by decide) (by decide) _
  iintro HX
  imod (Rounds.fund ER (Rd m) meshCells meshToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal ((c : Thread nD τ), .dma xq) 0 ∗ semVal ((c : Thread nD τ), .dma wq0) 0 ∗ semVal ((c : Thread nD τ), .dma wq1) 0
      ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7, 8, 9, 10] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_deal (c : Dev nD) :
    iprop(Pipeline.ownSems0 (Ix := Unit) (Name := ℕ) (U := UU) (Lvl := ℕ) (Val := Elt F) (τ := τ) osem c ∗ unscopedSems0 c)
      ⊢ iprop(localSems c ∗ (bigSep Finset.univ fun k : CellIx => semVal (kcell (c, k)) 0 : sProp 𝕄)) := by
  rw [ownSems0_eq, unscopedSems0_eq, cells_list]
  unfold localSems
  iintro ⟨⟨Hx, H0, H1, Hs⟩, HB⟩
  isplitl [Hx H0 H1]
  · isplitl [Hx]; · iexact Hx
    isplitl [H0] <;> iassumption
  isplitl [HB]; · iexact HB
  iexact Hs

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CellIx => iprop(∃ κ : ℕ, cellInv ER (Rd m) κ (kcell (c, k))))
          ∗ (bigSep Finset.univ fun k : CellIx => reached ER (kcell (c, k)) 0) ∗ (localSems c ∗ poss c) ∗ toks c) := by
  have hinv : iprop((bigSep Finset.univ fun k : CellIx => semVal (kcell (c, k)) 0) ∗ bigSep Finset.univ fun k : CellIx => roundState ER (Rd m) (kcell (c, k)) 0)
      ⊢ (|={Set.univ}=> bigSep Finset.univ fun k : CellIx => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  rw [bigSep_sep']
  iintro ⟨Hos, Hus, Hst, ⟨Hat, Hre⟩, Htok⟩
  ihave Hv := (sems0_deal (F := F) c) $$ [Hos Hus]
  · isplitl [Hos] <;> iassumption
  icases Hv with ⟨Hl, Hv⟩
  imod hinv $$ [Hv Hst] with Hinv
  · isplitl [Hv] <;> iassumption
  ihave Hat := (cells_deal fun k : CellIx => atPos ER (kcell (c, k)) 0 ∅ 0) $$ Hat
  imodintro
  isplitl [Hinv]; · iexact Hinv
  isplitl [Hre]; · iexact Hre
  isplitl [Hl Hat]
  · isplitl [Hl]; · iexact Hl
    unfold poss; iexact Hat
  iexact Htok

/-- The tokens dealt to those who pay: of device `c`'s barrier, duty `j` to device `j`; of its arrival from `j`, to `j`. -/
theorem toks_around : (bigSep Finset.univ fun c : Dev nD => (toks c : sProp 𝕄)) ⊢ bigSep Finset.univ fun c : Dev nD => payToks c := by
  unfold toks payToks
  simp only [bigSep_sep']
  rw [bigSep_univ_comm (fun (c j : Dev nD) => (dutyTok ER (barCell c) 0 j : sProp 𝕄)),
    bigSep_univ_comm (fun (c j : Dev nD) => (dutyTok ER (recvCell c j) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CellIx => iprop(∃ κ : ℕ, cellInv ER (Rd m) κ (kcell (c, k))))
          ∗ (bigSep Finset.univ fun k : CellIx => reached ER (kcell (c, k)) 0) ∗ (localSems c ∗ poss c) ∗ toks c) : sProp 𝕄)
      ⊢ bigSep Finset.univ (G' m) := by
  rw [bigSep_sep', bigSep_sep', bigSep_sep', ← bigSep_univ_prod (fun ck : Dev nD × CellIx => iprop(∃ κ : ℕ, cellInv ER (Rd m) κ (kcell ck))),
    ← bigSep_univ_prod (fun ck : Dev nD × CellIx => (reached ER (kcell ck) 0 : sProp 𝕄))]
  iintro ⟨HI, #HR, Hlp, Htok⟩
  ihave HK := (BI.bigSep_exists_pi Finset.univ (fun (ck : Dev nD × CellIx) (κ : ℕ) => (cellInv ER (Rd m) κ (kcell ck) : sProp 𝕄))) $$ HI
  icases HK with ⟨%K, #HI⟩
  ihave Htk := (toks_around (F := F)) $$ Htok
  iapply (with_persistent (R := records m K) (Φ := fun c => iprop((localSems c ∗ poss c) ∗ payToks c)) fun c _ => by
    unfold G'
    iintro ⟨HK, ⟨Hl, Hp⟩, Ht⟩
    isplitl [HK]; · iexists K; iexact HK
    isplitl [Hl]; · iexact Hl
    isplitl [Hp] <;> iassumption)
  isplitr
  · unfold records; isplitl; · iexact HI
    iexact HR
  · iapply (Entails.of_eq (bigSep_sep' Finset.univ (fun c : Dev nD => iprop(localSems (F := F) c ∗ poss c)) payToks).symm)
    isplitl [Hlp]; · iexact Hlp
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_at (d j c : Dev nD) : owBar d j (barCell c) () = if j ≠ d ∧ j = c then 1 else 0 := by
  unfold owBar
  by_cases h : j = d
  · rw [if_pos h, if_neg fun h' => h'.1 h]; rfl
  rw [if_neg h, tallyAt_apply]
  refine if_congr ⟨fun h' => ⟨h, ?_⟩, fun h' => ⟨by rw [h'.2], rfl⟩⟩ rfl rfl
  exact (congrArg (fun g : GSem nD τ sig => g.1.1) h'.1).symm
theorem recv_at (d j c p : Dev nD) : owRecv d j (recvCell c p) () = if j ≠ d ∧ j = c ∧ d = p then N else 0 := by
  unfold owRecv
  by_cases h : j = d
  · rw [if_pos h, if_neg fun h' => h'.1 h]; rfl
  rw [if_neg h, tallyAt_apply]
  refine if_congr ⟨fun h' => ⟨h, ?_, ?_⟩, fun h' => ⟨by rw [h'.2.1, h'.2.2], rfl⟩⟩ rfl rfl
  · exact (congrArg (fun g : GSem nD τ sig => g.1.1) h'.1).symm
  · exact (semRecv_inj (congrArg Prod.snd h'.1)).symm
theorem bar_at_recv (d j c p : Dev nD) : owBar d j (recvCell c p) () = 0 := by
  unfold owBar; split
  · rfl
  · rw [tallyAt_ne_cell (fun h => dma_ne_bar _ (congrArg Prod.snd h))]; rfl
theorem recv_at_bar (d j c : Dev nD) : owRecv d j (barCell c) () = 0 := by
  unfold owRecv; split
  · rfl
  · rw [tallyAt_ne_cell (fun h => dma_ne_bar _ (congrArg Prod.snd h).symm)]; rfl

theorem owed_bar (d c : Dev nD) : O₀ d (barCell c) () = if d = c then 0 else 1 := by
  unfold O₀ owRest
  simp only [Pi.add_apply, Finsupp.add_apply, bar_at, recv_at_bar]
  revert d c; decide
theorem owed_recv (d c p : Dev nD) (h : p ≠ c) : O₀ d (recvCell c p) () = if d = p then N else 0 := by
  unfold O₀ owRest
  simp only [Pi.add_apply, Finsupp.add_apply, recv_at, bar_at_recv]
  by_cases hd : d = p
  · subst hd
    rw [if_pos rfl]
    fin_cases c <;> fin_cases d <;> first | exact absurd rfl h | simp +decide
  · rw [if_neg hd]; simp [hd]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p h, Finset.sum_ite_eq' Finset.univ p fun _ => N,
    if_pos (Finset.mem_univ _)]

/-- The semaphores a device waits on with credit from the other devices. -/
def credSem : Option (Dev nD) → SemLoc sig
  | none => .reg barS
  | some p => .dma (semOf cc0_scratch8 p)
theorem credSem_injective : Function.Injective credSem := by
  rintro (_ | p) (_ | p') h
  · rfl
  · exact absurd h.symm (dma_ne_bar _)
  · exact absurd h (dma_ne_bar _)
  · rw [semRecv_inj h]

theorem creds_intro (c : Dev nD) : (Pipeline.launchCred O₀ c : sProp 𝕄) ⊢ creds c := by
  unfold Pipeline.launchCred
  refine (bigSep_subset (Finset.subset_univ (Finset.univ.map ⟨credSem, credSem_injective⟩))).trans ?_
  rw [bigSep_map]
  have hl (Φ : Option (Dev nD) → sProp 𝕄) : bigSep Finset.univ Φ = iprop(Φ none ∗ Φ (some 0) ∗ Φ (some 1) ∗ Φ (some 2) ∗ Φ (some 3)) :=
    bigSep_univ_eq_bigSepL [(none : Option (Dev nD)), some 0, some 1, some 2, some 3] (by decide) (by decide) Φ
  rw [hl]
  unfold creds
  rw [four]
  have hp (p : Dev nD) : (cred (tallyOn (recvCell c p) (launchCredit (Pipeline.owing O₀) 0 (recvCell c p))) : sProp 𝕄)
      ⊢ Other c p (cred (tallyAt (recvCell c p) () N)) := by
    by_cases h : p = c
    · unfold Other; rw [if_pos h]; exact fun _ _ => trivial
    · rw [Other_ne h, launch_recv c p h]
  have hb : (cred (tallyOn (barCell c) (launchCredit (Pipeline.owing O₀) 0 (barCell c))) : sProp 𝕄) ⊢ cred (tallyAt (barCell c) () 3) := by
    rw [launch_bar]
  exact BI.sep_mono hb (BI.sep_mono (hp 0) (BI.sep_mono (hp 1) (BI.sep_mono (hp 2) (hp 3))))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' argPts
  iintro ⟨⟨HX, HW⟩, Hlev, Hcr, -, ⟨HK, Hlin⟩⟩
  ihave Hc := (creds_intro (F := F) c) $$ Hcr
  imodintro
  isplitl
  · isplitl [HK]; · iexact HK
    isplitl [Hlin]; · iexact Hlin
    isplitl [Hc]; · iexact Hc
    isplitl [Hlev]; · iexact Hlev
    isplitl [HX] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ wholes
  iintro ⟨Hs, -, H0, H1, H2, H3, H4⟩
  isplitl [Hs]; · iexact Hs
  isplitl [H0]; · iexact H0
  isplitl [H1]; · iexact H1
  isplitl [H2]; · iexact H2
  isplitl [H3] <;> iassumption

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ wholes localSems sendSems recvSems
  iintro ⟨Hba, ⟨⟨Hx, H0, H1⟩, ⟨S0, S1, S2, S3⟩, R0, R1, R2, R3⟩, Hrest⟩
  isplitl [Hba]; · iexact Hba
  isplitl [Hx H0 H1 S0 S1 S2 S3 R0 R1 R2 R3]
  · isplitl [Hx]; · iexact Hx
    isplitl [H0]; · iexact H0
    isplitl [H1]; · iexact H1
    isplitl [S0]; · iexact S0
    isplitl [S1]; · iexact S1
    isplitl [S2]; · iexact S2
    isplitl [S3]; · iexact S3
    isplitl [R0]; · iexact R0
    isplitl [R1]; · iexact R1
    isplitl [R2] <;> iassumption
  iexact Hrest

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact O₀_debt c
      · exact DebtRecv.zero.any)

/-- The result array after the run: the one block the body leaves, whole. -/
theorem result_eq (c : Dev nD) : (dats m 0 c).arrAt (0 : Fin 1) cfg0.N = outAt m c := by
  have hfl (t : Fin cfg0.N) : (dats m 0 c).flushed (0 : Fin 1) t = ((cfg0.win (0 : Fin 1)).blk t).view.read (Elt F) (outAt m c) := by
    obtain rfl := fin_N0 t
    have ha : (dats m 0 c).after (0 : Fin 1) t0_0 = outAt m c := rfl
    unfold Pipeline.Dat.flushed
    rw [ha]
    have e : ∀ a, win0_0.index t0_0 a * win0_0.size a = 0 := by decide +kernel
    refine funext fun i => congrArg (outAt m c) (funext fun a => Fin.ext ?_)
    show (i a).val = win0_0.index t0_0 a * win0_0.size a + 1 * (i a).val
    rw [e a]; omega
  refine (dats m 0 c).arrAt_eq_of_cover (0 : Fin 1) (outAt m c) (fun t _ => hfl t) fun i => ⟨t0_0, flush0_0 _, ?_⟩
  show i ∈ ((View.whole main_v1).slice (win0_0.rect t0_0)).set
  rw [View.set_slice_whole, Rect.mem_set_unit]
  have h0 : (i 0 : Nat) < 4096 := (i 0).isLt
  have h1 : (i 1 : Nat) < 512 := (i 1).isLt
  have e : win0_0.index t0_0 0 * win0_0.size 0 = 0 ∧ win0_0.xsize (grid0.coords t0_0) 0 = 4096
      ∧ win0_0.index t0_0 1 * win0_0.size 1 = 0 ∧ win0_0.xsize (grid0.coords t0_0) 1 = 512 := by decide +kernel
  intro a
  match a with
  | ⟨0, _⟩ => show win0_0.index t0_0 0 * win0_0.size 0 ≤ (i 0 : Nat) ∧ (i 0 : Nat) < win0_0.index t0_0 0 * win0_0.size 0 + win0_0.xsize (grid0.coords t0_0) 0
              rw [e.1, e.2.1]; omega
  | ⟨1, _⟩ => show win0_0.index t0_0 1 * win0_0.size 1 ≤ (i 1 : Nat) ∧ (i 1 : Nat) < win0_0.index t0_0 1 * win0_0.size 1 + win0_0.xsize (grid0.coords t0_0) 1
              rw [e.2.2.1, e.2.2.2]; omega

/-- A state with device `c`'s arguments as launched and its free semaphores at zero. -/
def Left (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_arg1) = m ((c.tc : Thread nD τ).loc main_arg1)

theorem left_read (c : Dev nD) (s' : Phys nD τ sig (Elt F)) :
    iprop((unscopedSems0 c ∗ argPts m c) ∗ emp ∗ SI s') ⊢ (|={Set.univ}=> iprop(⌜Left m c s'.mem⌝ ∗ SI s') : sProp 𝕄) := by
  unfold argPts
  iintro ⟨⟨Hu, HX, HW⟩, -, HSI⟩
  icombine HSI HX gives %hx
  icombine HSI HW gives %hw
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hx, Buf.eq_of_forall_mem_univ hw⟩
  · iexact HSI

set_option maxRecDepth 8000 in
/-- From any memory with zero counters every weakly fair execution of @main on the four devices terminates, each device's
    result holding the computed contents, its arguments unchanged and every counter at zero. -/
theorem run_main : θ_run defs (onTc (τ := τ) (main (F := F))) (⟨m, fun _ => 0, ρ⟩ : MemSt nD τ sig (Elt F)) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w; exact block_pos0 0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_mesh m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => Left m c s)
    (hY := left_read m)
    (hQ := fun _ h hs => ⟨fun c => ⟨((h c).1 (0 : Fin 1)).trans (result_eq m c), (h c).2.2.2.1, (h c).2.2.2.2⟩, sem_eq_zero hs fun c => (h c).2.2.1⟩)

end Cert.KernelIdealProof

end
-- ==== Proof.Value.lean ====
/-
  The values: with exact arithmetic, what device `c`'s result holds is block `c` of the reference's result.
-/
module

public import proofs.«01_k».proof.Proof.KernelIdealCommon
public import proofs.«01_k».proof.Proof.Gen.ReferenceIdeal.Run
public import Idealize.ShloMosaic.Lib.MatmulPlain
public import Idealize.ShloMosaic.Lib.StackMember
public import Idealize.ShloMosaic.Lib.Pipeline.Value
public import Idealize.ShloMosaic.Lib.Layout

@[expose] public section

noncomputable section

namespace Cert.KernelIdealProof

open Cert.KernelIdeal Cert.KernelIdeal.Gen
open Idealize.ShloMosaic
open Idealize.ShloMosaic.TcCoe Idealize.ShloMosaic.ValueIdx

variable (m : (ℓ : Loc nD τ sig) → Buf (Elt Ideal) ℓ)

/-- A row of `x` against a column of `w`, its negative values cut off. -/
def entry {R C : ℕ} (x : FVec Ideal ⟨2, ![R, 4096]⟩ .f32) (w : FVec Ideal ⟨2, ![4096, C]⟩ .f32) (r : Fin R) (n : Fin C) : Ideal .f32 :=
  FloatOps.maximumf (φ := .f32) (∑ l : Fin 4096, x (ix2 r l) * w (ix2 l n)) (Scalar.ofBits .f32 0x00000000#32)

/-- The reference's result, entry by entry. -/
theorem reference_apply (x : FVec Ideal Cert.ReferenceIdeal.S4096x4096 .f32) (w : FVec Ideal Cert.ReferenceIdeal.S4096x2048 .f32) (r : Fin 4096) (n : Fin 2048) :
    maximumf (Host.dotGeneral Cert.ReferenceIdeal.dot_S4096x4096_S4096x2048_S4096x2048_1_0_0_1_n_n none x w)
        (broadcastInDim Cert.ReferenceIdeal.S4096x2048 ![] Cert.ReferenceIdeal.Facts₀.bcast_S_S4096x2048 (constant Cert.ReferenceIdeal.S_ .f32 0x00000000#32)) (ix2 r n)
      = entry x w r n := by
  have hd : Cert.ReferenceIdeal.dot_S4096x4096_S4096x2048_S4096x2048_1_0_0_1_n_n = DotDims.plain 4096 4096 2048 := rfl
  rw [hd]
  unfold entry
  exact congrArg (fun z => FloatOps.maximumf (φ := .f32) z _) (StackMember.dotGeneral_plain_apply none x w r n)

/-- A chunk a device computes, entry by entry. -/
theorem chunk_apply (p : Dev nD) (k : Fin 8) (r : Fin 1024) (n : Fin 256) :
    chunk m p k (ix2 r n) = entry (R := 1024) (C := 2048) (m ((p : Thread nD τ).loc main_arg0)) (m ((p : Thread nD τ).loc main_arg1)) r
      ⟨256 * k.val + n.val, by have := k.isLt; have := n.isLt; omega⟩ := by
  have hd : dot_S1024x4096_S4096x256_S1024x256_1_0_0_1_n_n = DotDims.plain 1024 4096 256 := rfl
  unfold chunk k0_pay5 xb k0_pay4 entry
  dsimp only
  show FloatOps.maximumf (φ := .f32) (FloatOps.matmul _ none _ _ _ (ix2 r n)) _ = _
  refine congrArg (fun z => FloatOps.maximumf (φ := .f32) z _) ?_
  rw [hd, Ideal.matmul_plain_apply]
  have h0 : (constant S1024x256 .f32 0x00000000#32 : FVec Ideal S1024x256 .f32) (ix2 r n) = 0 := Ideal.ofBits_zero_f32
  rw [h0, zero_add]
  refine Finset.sum_congr rfl fun l _ => ?_
  rw [shapeCast_self]
  refine congrArg₂ (· * ·) rfl ?_
  show shapeCast S4096x256 (wc m p k) _ (ix2 l n) = _
  rw [shapeCast_dropUnit_apply]
  unfold wc
  refine congrArg (m ((p : Thread nD τ).loc main_arg1)) (funext fun a => ?_)
  match a with
  | ⟨0, _⟩ => rfl
  | ⟨1, _⟩ => rfl

/-- What device `c`'s result holds, entry by entry: row `r` is computed by device `r / 1024`, from its own rows of `x`. -/
theorem outAt_apply (c : Dev nD) (r : Fin 4096) (n : Fin 512) :
    outAt m c (ix2 r n) = entry (R := 1024) (C := 2048)
      (m (((⟨r.val / 1024, by have := r.isLt; show _ < 4; omega⟩ : Dev nD) : Thread nD τ).loc main_arg0))
      (m (((⟨r.val / 1024, by have := r.isLt; show _ < 4; omega⟩ : Dev nD) : Thread nD τ).loc main_arg1))
      ⟨r.val % 1024, Nat.mod_lt _ (by decide)⟩ ⟨c.val * 512 + n.val, by have h : c.val < 4 := c.isLt; have := n.isLt; omega⟩ := by
  have hc : c.val < 4 := c.isLt
  have hn := n.isLt
  have hcol : (⟨256 * (2 * c.val + n.val / 256) + n.val % 256, by omega⟩ : Fin 2048) = ⟨c.val * 512 + n.val, by omega⟩ := Fin.ext (by
    show 256 * (2 * c.val + n.val / 256) + n.val % 256 = c.val * 512 + n.val
    omega)
  rw [← hcol]
  unfold outAt
  by_cases h : r.val / 1024 = c.val
  · have hp : (⟨r.val / 1024, by have := r.isLt; show _ < 4; omega⟩ : Dev nD) = c := Fin.ext h
    rw [if_pos h, hp]
    exact chunk_apply m c _ _ _
  · rw [if_neg h]
    exact chunk_apply m _ _ _ _

/-- The devices' results against the reference's, from arguments that agree. -/
theorem result_block (x : FVec Ideal ⟨2, ![4096, 4096]⟩ .f32) (w : FVec Ideal ⟨2, ![4096, 2048]⟩ .f32)
    (hx : ∀ c : Dev nD, m ((c.tc : Thread nD τ).loc main_arg0) = Layout.block ⟨2, ![1024, 4096]⟩ ⟨2, ![4096, 4096]⟩ 0 4 c x)
    (hw : ∀ c : Dev nD, m ((c.tc : Thread nD τ).loc main_arg1) = w) (y : FVec Ideal ⟨2, ![4096, 2048]⟩ .f32)
    (hy : ∀ (r : Fin 4096) (n : Fin 2048), y (ix2 r n) = entry x w r n) (c : Dev nD) :
    outAt m c = Layout.block ⟨2, ![4096, 512]⟩ ⟨2, ![4096, 2048]⟩ 1 4 c y := by
  funext i
  obtain ⟨r, n, rfl⟩ : ∃ (r : Fin 4096) (n : Fin 512), i = ix2 r n := ⟨i 0, i 1, eq_ix2 i⟩
  rw [Layout.block_apply]
  have hi : ((by decide : Layout.Tiles ⟨2, ![4096, 512]⟩ ⟨2, ![4096, 2048]⟩ 1 4).idx c (ix2 r n))
      = ix2 r ⟨c.val * 512 + n.val, by have h : c.val < 4 := c.isLt; have := n.isLt; omega⟩ := by
    funext a; apply Fin.ext
    match a with
    | ⟨0, _⟩ => rfl
    | ⟨1, _⟩ => rfl
  rw [hi, hy, outAt_apply, hx, hw]
  unfold entry
  refine congrArg (fun z => FloatOps.maximumf (φ := .f32) z _) (Finset.sum_congr rfl fun l _ => congrArg (· * w _) ?_)
  rw [Layout.block_apply]
  refine congrArg x ?_
  funext a; apply Fin.ext
  match a with
  | ⟨0, _⟩ => show r.val / 1024 * 1024 + r.val % 1024 = r.val; omega
  | ⟨1, _⟩ => rfl

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem quiescent_kernel : Cert.quiescent_Kernel := fun m g _ =>
  (θ_run Cert.Kernel.defs _ _).mono (fun _ h => ⟨fun c => (h.1 c).2, h.2⟩) (Cert.KernelProof.run_main m g)

theorem quiescent_kernelIdeal : Cert.quiescent_KernelIdeal := fun m g _ =>
  (θ_run Cert.KernelIdeal.defs _ _).mono (fun _ h => ⟨fun c => (h.1 c).2, h.2⟩) (Cert.KernelIdealProof.run_main m g)

/-- The reference has no semaphores, so its run alone leaves every counter at zero. -/
theorem quiescent_referenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

theorem algebraic : Cert.algebraic_KernelIdeal_ReferenceIdeal := fun m g m' g' _ hargs =>
  ⟨_, (θ_run Cert.KernelIdeal.defs _ _).mono (fun _ h c => ⟨(h.1 c).1.trans
        (Cert.KernelIdealProof.result_block m _ _ (fun c => (hargs c).1) (fun c => (hargs c).2) _
          (Cert.KernelIdealProof.reference_apply _ _) c), (h.1 c).2⟩) (Cert.KernelIdealProof.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
